-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![4096, 256]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![4096, 1]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![2, 256, 512]⟩ ⟨3, ![16, 256, 512]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![4096, 512]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v44) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S256x16 : Shape := ⟨2, ![256, 16]⟩
abbrev S512x1 : Shape := ⟨2, ![512, 1]⟩
abbrev S2x256x512 : Shape := ⟨3, ![2, 256, 512]⟩
abbrev S512x512 : Shape := ⟨2, ![512, 512]⟩
abbrev S8x2x256x512 : Shape := ⟨4, ![8, 2, 256, 512]⟩
abbrev S8x1x32 : Shape := ⟨3, ![8, 1, 32]⟩
abbrev S7 : Shape := ⟨1, ![7]⟩
abbrev S512x16 : Shape := ⟨2, ![512, 16]⟩
abbrev S1x2x256x512 : Shape := ⟨4, ![1, 2, 256, 512]⟩
abbrev S1 : Shape := ⟨1, ![1]⟩
abbrev S1x1x1x1 : Shape := ⟨4, ![1, 1, 1, 1]⟩
abbrev S1x1 : Shape := ⟨2, ![1, 1]⟩
abbrev S16 : Shape := ⟨1, ![16]⟩
abbrev S1x16 : Shape := ⟨2, ![1, 16]⟩
abbrev S1x32 : Shape := ⟨2, ![1, 32]⟩
abbrev S1x1x32 : Shape := ⟨3, ![1, 1, 32]⟩
abbrev S1x1x1 : Shape := ⟨3, ![1, 1, 1]⟩
abbrev S_ : Shape := ⟨0, ![]⟩
abbrev S512 : Shape := ⟨1, ![512]⟩
abbrev S8x1x16 : Shape := ⟨3, ![8, 1, 16]⟩

abbrev nBuf : Space → Nat
  | .hbm => 5
  | .vmem => 6
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x1, .i32⟩
  | .hbm, ⟨3, _⟩ => ⟨S2x256x512, .f32⟩
  | .hbm, ⟨4, _⟩ => ⟨S512x512, .f32⟩
  | .local _ .vmem, ⟨0, _⟩ => ⟨S512x256, .f32⟩
  | .local _ .vmem, ⟨1, _⟩ => ⟨S512x1, .i32⟩
  | .local _ .vmem, ⟨2, _⟩ => ⟨S2x256x512, .f32⟩
  | .local _ .vmem, ⟨3, _⟩ => ⟨S512x512, .f32⟩
  | .local _ .vmem, ⟨4, _⟩ => ⟨S8x2x256x512, .i8⟩
  | .local _ .vmem, ⟨5, _⟩ => ⟨S8x1x32, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  (ofTc nBuf bufTy 1 32 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v23 : Index := Scalar.indexCast v2
  let c0_5 : Index := 0#32
  let c0_6 : Index := 0#32
  ![v23.toNat, 0, 0]
def k0_off2 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v34 : Index := Scalar.indexCast v2
  let c0_8 : Index := 0#32
  let c0_9 : Index := 0#32
  let c0_10 : Index := 0#32
  ![v34.toNat, 0, 0, 0]
def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_11 : BitVec 32 := 1#32
  let v39 : BitVec 32 := Scalar.addi v2 c1_i32_11
  let c8_i32_12 : BitVec 32 := 8#32
  let v40 : BitVec 32 := Scalar.remsi v39 c8_i32_12
  let c1_i32_14 : BitVec 32 := 1#32
  let v41 : BitVec 32 := Scalar.muli v40 c1_i32_14
  let v42 : BitVec 32 := Scalar.addi c0_i32 v41
  v42.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v43 : BitVec 32 := Scalar.addi v2 c2_i32
  let c8_i32_15 : BitVec 32 := 8#32
  let v44 : BitVec 32 := Scalar.remsi v43 c8_i32_15
  let c1_i32_17 : BitVec 32 := 1#32
  let v45 : BitVec 32 := Scalar.muli v44 c1_i32_17
  let v46 : BitVec 32 := Scalar.addi c0_i32_18 v45
  v46.toNat
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v47 : BitVec 32 := Scalar.addi v2 c3_i32
  let c8_i32_19 : BitVec 32 := 8#32
  let v48 : BitVec 32 := Scalar.remsi v47 c8_i32_19
  let c1_i32_21 : BitVec 32 := 1#32
  let v49 : BitVec 32 := Scalar.muli v48 c1_i32_21
  let v50 : BitVec 32 := Scalar.addi c0_i32_22 v49
  v50.toNat
def k0_dev4 (d0 : Dev nD) : Nat :=
  let c0_i32_26 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v51 : BitVec 32 := Scalar.addi v2 c4_i32
  let c8_i32_23 : BitVec 32 := 8#32
  let v52 : BitVec 32 := Scalar.remsi v51 c8_i32_23
  let c1_i32_25 : BitVec 32 := 1#32
  let v53 : BitVec 32 := Scalar.muli v52 c1_i32_25
  let v54 : BitVec 32 := Scalar.addi c0_i32_26 v53
  v54.toNat
def k0_dev5 (d0 : Dev nD) : Nat :=
  let c0_i32_30 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v55 : BitVec 32 := Scalar.addi v2 c5_i32
  let c8_i32_27 : BitVec 32 := 8#32
  let v56 : BitVec 32 := Scalar.remsi v55 c8_i32_27
  let c1_i32_29 : BitVec 32 := 1#32
  let v57 : BitVec 32 := Scalar.muli v56 c1_i32_29
  let v58 : BitVec 32 := Scalar.addi c0_i32_30 v57
  v58.toNat
def k0_dev6 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v59 : BitVec 32 := Scalar.addi v2 c6_i32
  let c8_i32_31 : BitVec 32 := 8#32
  let v60 : BitVec 32 := Scalar.remsi v59 c8_i32_31
  let c1_i32_33 : BitVec 32 := 1#32
  let v61 : BitVec 32 := Scalar.muli v60 c1_i32_33
  let v62 : BitVec 32 := Scalar.addi c0_i32_34 v61
  v62.toNat
def k0_dev7 (d0 : Dev nD) : Nat :=
  let c0_i32_38 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v63 : BitVec 32 := Scalar.addi v2 c7_i32
  let c8_i32_35 : BitVec 32 := 8#32
  let v64 : BitVec 32 := Scalar.remsi v63 c8_i32_35
  let c1_i32_37 : BitVec 32 := 1#32
  let v65 : BitVec 32 := Scalar.muli v64 c1_i32_37
  let v66 : BitVec 32 := Scalar.addi c0_i32_38 v65
  v66.toNat
def k0_off3 (d0 : Dev nD) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_46 : BitVec 32 := 0#32
  let c0_i32_47 : BitVec 32 := 0#32
  let c0_i32_48 : BitVec 32 := 0#32
  ![v2.toNat, 0, 0, 0]
def k0_dev8 (d0 : Dev nD) : Nat :=
  let c0_i32_45 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v67 : BitVec 32 := Scalar.addi v2 c1_i32_40
  let c8_i32_41 : BitVec 32 := 8#32
  let v68 : BitVec 32 := Scalar.remsi v67 c8_i32_41
  let c1_i32_44 : BitVec 32 := 1#32
  let v69 : BitVec 32 := Scalar.muli v68 c1_i32_44
  let v70 : BitVec 32 := Scalar.addi c0_i32_45 v69
  v70.toNat
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_56 : BitVec 32 := 0#32
  let c0_i32_57 : BitVec 32 := 0#32
  ![v2.toNat, 0, 0]
def k0_dev9 (d0 : Dev nD) : Nat :=
  let c0_i32_55 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_40 : BitVec 32 := 1#32
  let v67 : BitVec 32 := Scalar.addi v2 c1_i32_40
  let c8_i32_41 : BitVec 32 := 8#32
  let v68 : BitVec 32 := Scalar.remsi v67 c8_i32_41
  let c1_i32_54 : BitVec 32 := 1#32
  let v79 : BitVec 32 := Scalar.muli v68 c1_i32_54
  let v80 : BitVec 32 := Scalar.addi c0_i32_55 v79
  v80.toNat
def k0_dev10 (d0 : Dev nD) : Nat :=
  let c0_i32_65 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_60 : BitVec 32 := 2#32
  let v89 : BitVec 32 := Scalar.addi v2 c2_i32_60
  let c8_i32_61 : BitVec 32 := 8#32
  let v90 : BitVec 32 := Scalar.remsi v89 c8_i32_61
  let c1_i32_64 : BitVec 32 := 1#32
  let v91 : BitVec 32 := Scalar.muli v90 c1_i32_64
  let v92 : BitVec 32 := Scalar.addi c0_i32_65 v91
  v92.toNat
def k0_dev11 (d0 : Dev nD) : Nat :=
  let c0_i32_75 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_60 : BitVec 32 := 2#32
  let v89 : BitVec 32 := Scalar.addi v2 c2_i32_60
  let c8_i32_61 : BitVec 32 := 8#32
  let v90 : BitVec 32 := Scalar.remsi v89 c8_i32_61
  let c1_i32_74 : BitVec 32 := 1#32
  let v101 : BitVec 32 := Scalar.muli v90 c1_i32_74
  let v102 : BitVec 32 := Scalar.addi c0_i32_75 v101
  v102.toNat
def k0_dev12 (d0 : Dev nD) : Nat :=
  let c0_i32_85 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_80 : BitVec 32 := 3#32
  let v111 : BitVec 32 := Scalar.addi v2 c3_i32_80
  let c8_i32_81 : BitVec 32 := 8#32
  let v112 : BitVec 32 := Scalar.remsi v111 c8_i32_81
  let c1_i32_84 : BitVec 32 := 1#32
  let v113 : BitVec 32 := Scalar.muli v112 c1_i32_84
  let v114 : BitVec 32 := Scalar.addi c0_i32_85 v113
  v114.toNat
def k0_dev13 (d0 : Dev nD) : Nat :=
  let c0_i32_95 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_80 : BitVec 32 := 3#32
  let v111 : BitVec 32 := Scalar.addi v2 c3_i32_80
  let c8_i32_81 : BitVec 32 := 8#32
  let v112 : BitVec 32 := Scalar.remsi v111 c8_i32_81
  let c1_i32_94 : BitVec 32 := 1#32
  let v123 : BitVec 32 := Scalar.muli v112 c1_i32_94
  let v124 : BitVec 32 := Scalar.addi c0_i32_95 v123
  v124.toNat
def k0_dev14 (d0 : Dev nD) : Nat :=
  let c0_i32_105 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_100 : BitVec 32 := 4#32
  let v133 : BitVec 32 := Scalar.addi v2 c4_i32_100
  let c8_i32_101 : BitVec 32 := 8#32
  let v134 : BitVec 32 := Scalar.remsi v133 c8_i32_101
  let c1_i32_104 : BitVec 32 := 1#32
  let v135 : BitVec 32 := Scalar.muli v134 c1_i32_104
  let v136 : BitVec 32 := Scalar.addi c0_i32_105 v135
  v136.toNat
def k0_dev15 (d0 : Dev nD) : Nat :=
  let c0_i32_115 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_100 : BitVec 32 := 4#32
  let v133 : BitVec 32 := Scalar.addi v2 c4_i32_100
  let c8_i32_101 : BitVec 32 := 8#32
  let v134 : BitVec 32 := Scalar.remsi v133 c8_i32_101
  let c1_i32_114 : BitVec 32 := 1#32
  let v145 : BitVec 32 := Scalar.muli v134 c1_i32_114
  let v146 : BitVec 32 := Scalar.addi c0_i32_115 v145
  v146.toNat
def k0_dev16 (d0 : Dev nD) : Nat :=
  let c0_i32_125 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_120 : BitVec 32 := 5#32
  let v155 : BitVec 32 := Scalar.addi v2 c5_i32_120
  let c8_i32_121 : BitVec 32 := 8#32
  let v156 : BitVec 32 := Scalar.remsi v155 c8_i32_121
  let c1_i32_124 : BitVec 32 := 1#32
  let v157 : BitVec 32 := Scalar.muli v156 c1_i32_124
  let v158 : BitVec 32 := Scalar.addi c0_i32_125 v157
  v158.toNat
def k0_dev17 (d0 : Dev nD) : Nat :=
  let c0_i32_135 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_120 : BitVec 32 := 5#32
  let v155 : BitVec 32 := Scalar.addi v2 c5_i32_120
  let c8_i32_121 : BitVec 32 := 8#32
  let v156 : BitVec 32 := Scalar.remsi v155 c8_i32_121
  let c1_i32_134 : BitVec 32 := 1#32
  let v167 : BitVec 32 := Scalar.muli v156 c1_i32_134
  let v168 : BitVec 32 := Scalar.addi c0_i32_135 v167
  v168.toNat
def k0_dev18 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_140 : BitVec 32 := 6#32
  let v177 : BitVec 32 := Scalar.addi v2 c6_i32_140
  let c8_i32_141 : BitVec 32 := 8#32
  let v178 : BitVec 32 := Scalar.remsi v177 c8_i32_141
  let c1_i32_144 : BitVec 32 := 1#32
  let v179 : BitVec 32 := Scalar.muli v178 c1_i32_144
  let v180 : BitVec 32 := Scalar.addi c0_i32_145 v179
  v180.toNat
def k0_dev19 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_140 : BitVec 32 := 6#32
  let v177 : BitVec 32 := Scalar.addi v2 c6_i32_140
  let c8_i32_141 : BitVec 32 := 8#32
  let v178 : BitVec 32 := Scalar.remsi v177 c8_i32_141
  let c1_i32_154 : BitVec 32 := 1#32
  let v189 : BitVec 32 := Scalar.muli v178 c1_i32_154
  let v190 : BitVec 32 := Scalar.addi c0_i32_155 v189
  v190.toNat
def k0_dev20 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_160 : BitVec 32 := 7#32
  let v199 : BitVec 32 := Scalar.addi v2 c7_i32_160
  let c8_i32_161 : BitVec 32 := 8#32
  let v200 : BitVec 32 := Scalar.remsi v199 c8_i32_161
  let c1_i32_164 : BitVec 32 := 1#32
  let v201 : BitVec 32 := Scalar.muli v200 c1_i32_164
  let v202 : BitVec 32 := Scalar.addi c0_i32_165 v201
  v202.toNat
def k0_dev21 (d0 : Dev nD) : Nat :=
  let c0_i32_175 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_160 : BitVec 32 := 7#32
  let v199 : BitVec 32 := Scalar.addi v2 c7_i32_160
  let c8_i32_161 : BitVec 32 := 8#32
  let v200 : BitVec 32 := Scalar.remsi v199 c8_i32_161
  let c1_i32_174 : BitVec 32 := 1#32
  let v211 : BitVec 32 := Scalar.muli v200 c1_i32_174
  let v212 : BitVec 32 := Scalar.addi c0_i32_175 v211
  v212.toNat
def k0_off5 (d0 : Dev nD) (c1_i32_193 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v258 : BitVec 32 := Scalar.subi v2 c1_i32_193
  let c8_i32_194 : BitVec 32 := 8#32
  let v259 : BitVec 32 := Scalar.addi v258 c8_i32_194
  let c8_i32_195 : BitVec 32 := 8#32
  let v260 : BitVec 32 := Scalar.remsi v259 c8_i32_195
  let c0_i32_200 : BitVec 32 := 0#32
  let c0_i32_201 : BitVec 32 := 0#32
  let c0_i32_202 : BitVec 32 := 0#32
  ![v260.toNat, 0, 0, 0]
def k0_off6 (d0 : Dev nD) (c1_i32_193 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v258 : BitVec 32 := Scalar.subi v2 c1_i32_193
  let c8_i32_194 : BitVec 32 := 8#32
  let v259 : BitVec 32 := Scalar.addi v258 c8_i32_194
  let c8_i32_195 : BitVec 32 := 8#32
  let v260 : BitVec 32 := Scalar.remsi v259 c8_i32_195
  let c0_i32_210 : BitVec 32 := 0#32
  let c0_i32_211 : BitVec 32 := 0#32
  ![v260.toNat, 0, 0]
def k0_off7 (d0 : Dev nD) (c1_i32_193 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v258 : BitVec 32 := Scalar.subi v2 c1_i32_193
  let c8_i32_194 : BitVec 32 := 8#32
  let v259 : BitVec 32 := Scalar.addi v258 c8_i32_194
  let c8_i32_195 : BitVec 32 := 8#32
  let v260 : BitVec 32 := Scalar.remsi v259 c8_i32_195
  let v277 : Index := Scalar.indexCast v260
  let c0_214 : Index := 0#32
  let c16 : Index := 16#32
  ![v277.toNat, 0, 16]
def k0_off8 (d0 : Dev nD) (c1_i32_193 : BitVec 32) : Fin 4 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v258 : BitVec 32 := Scalar.subi v2 c1_i32_193
  let c8_i32_194 : BitVec 32 := 8#32
  let v259 : BitVec 32 := Scalar.addi v258 c8_i32_194
  let c8_i32_195 : BitVec 32 := 8#32
  let v260 : BitVec 32 := Scalar.remsi v259 c8_i32_195
  let v280 : Index := Scalar.indexCast v260
  let c0_215 : Index := 0#32
  let c0_216 : Index := 0#32
  let c0_217 : Index := 0#32
  ![v280.toNat, 0, 0, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S4096x256 : Shape := ⟨2, ![4096, 256]⟩
abbrev S256x16 : Shape := ⟨2, ![256, 16]⟩
abbrev S4096x1 : Shape := ⟨2, ![4096, 1]⟩
abbrev S16x256x512 : Shape := ⟨3, ![16, 256, 512]⟩
abbrev S16 : Shape := ⟨1, ![16]⟩
abbrev S1x16 : Shape := ⟨2, ![1, 16]⟩
abbrev S4096x16 : Shape := ⟨2, ![4096, 16]⟩
abbrev S_ : Shape := ⟨0, ![]⟩
abbrev S4096 : Shape := ⟨1, ![4096]⟩
abbrev S8x2x256x512 : Shape := ⟨4, ![8, 2, 256, 512]⟩
abbrev S8 : Shape := ⟨1, ![8]⟩
abbrev S8x2 : Shape := ⟨2, ![8, 2]⟩
abbrev S16x1x1 : Shape := ⟨3, ![16, 1, 1]⟩
abbrev S16x512x4096 : Shape := ⟨3, ![16, 512, 4096]⟩
abbrev S16x4096x512 : Shape := ⟨3, ![16, 4096, 512]⟩
abbrev S16x4096 : Shape := ⟨2, ![16, 4096]⟩
abbrev S16x4096x1 : Shape := ⟨3, ![16, 4096, 1]⟩
abbrev S4096x512 : Shape := ⟨2, ![4096, 512]⟩

abbrev nBuf : Space → Nat
  | .hbm => 58
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x16, .f32⟩
  | .hbm, ⟨2, _⟩ => ⟨S4096x1, .i32⟩
  | .hbm, ⟨3, _⟩ => ⟨S16x256x512, .f32⟩
  | .hbm, ⟨4, _⟩ => ⟨S16, .i32⟩
  | .hbm, ⟨5, _⟩ => ⟨S1x16, .i32⟩
  | .hbm, ⟨6, _⟩ => ⟨S4096x16, .i32⟩
  | .hbm, ⟨7, _⟩ => ⟨S4096x16, .i32⟩
  | .hbm, ⟨8, _⟩ => ⟨S4096x16, .i1⟩
  | .hbm, ⟨9, _⟩ => ⟨S4096x16, .f32⟩
  | .hbm, ⟨10, _⟩ => ⟨S_, .f32⟩
  | .hbm, ⟨11, _⟩ => ⟨S_, .f32⟩
  | .hbm, ⟨12, _⟩ => ⟨S4096x16, .f32⟩
  | .hbm, ⟨13, _⟩ => ⟨S4096x16, .f32⟩
  | .hbm, ⟨14, _⟩ => ⟨S_, .f32⟩
  | .hbm, ⟨15, _⟩ => ⟨S4096x16, .f32⟩
  | .hbm, ⟨16, _⟩ => ⟨S4096x16, .i1⟩
  | .hbm, ⟨17, _⟩ => ⟨S4096x16, .f32⟩
  | .hbm, ⟨18, _⟩ => ⟨S4096x16, .f32⟩
  | .hbm, ⟨19, _⟩ => ⟨S4096x256, .f32⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x256, .f32⟩
  | .hbm, ⟨27, _⟩ => ⟨S4096x256, .f32⟩
  | .hbm, ⟨28, _⟩ => ⟨S4096x256, .f32⟩
  | .hbm, ⟨29, _⟩ => ⟨S8x2x256x512, .f32⟩
  | .hbm, ⟨30, _⟩ => ⟨S8x2x256x512, .f32⟩
  | .hbm, ⟨31, _⟩ => ⟨S_, .f32⟩
  | .hbm, ⟨32, _⟩ => ⟨S8, .f32⟩
  | .hbm, ⟨33, _⟩ => ⟨S8x2, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S16x1x1, .f32⟩
  | .hbm, ⟨39, _⟩ => ⟨S16x256x512, .f32⟩
  | .hbm, ⟨40, _⟩ => ⟨S16x256x512, .f32⟩
  | .hbm, ⟨41, _⟩ => ⟨S16x256x512, .f32⟩
  | .hbm, ⟨42, _⟩ => ⟨S16x512x4096, .f32⟩
  | .hbm, ⟨43, _⟩ => ⟨S16x4096x512, .f32⟩
  | .hbm, ⟨44, _⟩ => ⟨S16x1x1, .f32⟩
  | .hbm, ⟨45, _⟩ => ⟨S16x4096x512, .f32⟩
  | .hbm, ⟨46, _⟩ => ⟨S16x4096x512, .f32⟩
  | .hbm, ⟨47, _⟩ => ⟨S16x4096, .f32⟩
  | .hbm, ⟨48, _⟩ => ⟨S16x4096x1, .f32⟩
  | .hbm, ⟨49, _⟩ => ⟨S16x4096x512, .f32⟩
  | .hbm, ⟨50, _⟩ => ⟨S16x4096x512, .f32⟩
  | .hbm, ⟨51, _⟩ => ⟨S_, .f32⟩
  | .hbm, ⟨52, _⟩ => ⟨S4096x512, .f32⟩
  | .hbm, ⟨53, _⟩ => ⟨S_, .f32⟩
  | .hbm, ⟨54, _⟩ => ⟨S4096x1, .f32⟩
  | .hbm, ⟨55, _⟩ => ⟨S4096x1, .f32⟩
  | .hbm, ⟨56, _⟩ => ⟨S4096x512, .f32⟩
  | .hbm, ⟨57, _⟩ => ⟨S4096x512, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_cst : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_cst_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩

abbrev nD : Nat := 1
abbrev τ : Topo := Topo.v7x

variable {F : FTy → Type} [FloatOps F]
-- ==== Proof.Proto.lean ====
/-
# The exchange protocol of the kernel: cells, duties, contents, levels

Every device stores its own quantised weights in slot `my` of the gathered weight buffer and its own row of
counts-and-scale in slot `my` of the gathered side buffer, tells each of the seven other devices that it is in the
kernel (one unit on their barrier semaphore), waits for the seven units of its own barrier semaphore, and then copies
its two slots to the same slots of every other device, transfer `j` going to the device `j + 1` places on.

What each semaphore hands over (one round each):
* barrier of `d`: seven units, one from each other device; the unit of the device `j + 1` places after `d` hands `d`
  that device's slot `d` of both buffers, contents arbitrary;
* receive semaphore `j` of `d` (weights, side): one landing, from the device `j + 1` places before `d`; it hands `d`
  the slot of that device, holding that device's quantised weights (its counts and scale);
* send semaphore `j` of `d` (weights, side): one credit when transfer `j` has been read; it hands back the share of
  `d`'s own slot that the transfer read.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Transfers
public import Idealize.ShloMosaic.Lib.Ring
public import Idealize.ShloMosaic.Lib.Tactic

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The devices -/

set_option backward.proofsInPublic true in
/-- The device `j + 1` places after `c`: where `c`'s transfer `j` goes. -/
def shl (c : Dev nD) (j : Fin 7) : Dev nD := ⟨(c.val + j.val + 1) % 8, Nat.mod_lt _ (by decide)⟩
set_option backward.proofsInPublic true in
/-- The device `j + 1` places before `c`: whose transfer `j` lands on `c`. -/
def shr (c : Dev nD) (j : Fin 7) : Dev nD := ⟨(c.val + 7 - j.val) % 8, Nat.mod_lt _ (by decide)⟩

theorem shl_shr (c : Dev nD) (j : Fin 7) : shl (shr c j) j = c := by revert c j; decide
theorem shr_shl (c : Dev nD) (j : Fin 7) : shr (shl c j) j = c := by revert c j; decide
theorem shl_shl_rev (c : Dev nD) (j : Fin 7) : shl (shl c j) j.rev = c := by revert c j; decide
theorem shl_rev (c : Dev nD) (j : Fin 7) : shl c j.rev = shr c j := by revert c j; decide
theorem shl_ne (c : Dev nD) (j : Fin 7) : shl c j ≠ c := by revert c j; decide

/-- Moving every device `j + 1` places on. -/
def turn (j : Fin 7) : Dev nD ≃ Dev nD := ⟨(shl · j), (shr · j), fun c => shr_shl c j, fun c => shl_shr c j⟩

/-! ## The cells -/

/-- The runtime's barrier semaphore. -/
abbrev barS : Sem sig := (SemArray.scalar (sig.barrier 0 rfl) : Sems sig S_).sem

/-- Which of the kernel's cells: `none` the barrier; `some (s, j)` place `j` of array `s`, the arrays being the weights'
    send (0) and receive (1) and the side buffer's send (2) and receive (3) semaphores. -/
abbrev Ci : Type := Option (Fin 4 × Fin 7)

/-- The kernel's own semaphores. -/
abbrev osem (x : Fin 4 × Fin 7) : SemLoc sig := .dma (⟨4 + 7 * x.1.val + x.2.val, by obtain ⟨⟨s, hs⟩, ⟨j, hj⟩⟩ := x; show 4 + 7 * s + j < 32; omega⟩ : DmaSem sig)
abbrev csem : Ci → SemLoc sig
  | none => .reg barS
  | some x => osem x
abbrev kcell (ck : Dev nD × Ci) : GSem nD τ sig := ((ck.1 : Thread nD τ), csem ck.2)

/-- The kernel's cell a semaphore is, if it is one. -/
def kind : SemLoc sig → Option Ci
  | .reg s => if s = barS then some none else none
  | .dma q => if 4 ≤ q.val then some (some (⟨(q.val - 4) / 7 % 4, Nat.mod_lt _ (by decide)⟩, ⟨(q.val - 4) % 7, Nat.mod_lt _ (by decide)⟩)) else none

theorem kind_csem : ∀ k : Ci, kind (csem k) = some k := by decide

theorem csem_injective : Function.Injective csem := fun a b h => by
  have := congrArg kind h; rwa [kind_csem, kind_csem, Option.some.injEq] at this

theorem kcell_injective : Function.Injective kcell := by
  rintro ⟨c, k⟩ ⟨c', k'⟩ h
  have h1 : c = c' := congrArg (fun g : GSem nD τ sig => g.1.1) h
  have h2 : csem k = csem k' := congrArg Prod.snd h
  rw [h1, csem_injective h2]

theorem kcell_eq_iff {a b : Dev nD × Ci} : kcell a = kcell b ↔ a = b := kcell_injective.eq_iff

abbrev barC (c : Dev nD) : GSem nD τ sig := kcell (c, none)
abbrev sndW (c : Dev nD) (j : Fin 7) : GSem nD τ sig := kcell (c, some (0, j))
abbrev rcvW (c : Dev nD) (j : Fin 7) : GSem nD τ sig := kcell (c, some (1, j))
abbrev sndC (c : Dev nD) (j : Fin 7) : GSem nD τ sig := kcell (c, some (2, j))
abbrev rcvC (c : Dev nD) (j : Fin 7) : GSem nD τ sig := kcell (c, some (3, j))

/-! ## The slots of the gathered buffers -/

abbrev wM : Memref sig .tc .vmem S8x2x256x512 .i8 := Memref.whole cc0_scratch0
abbrev sM : Memref sig .tc .vmem S8x1x32 .f32 := Memref.whole cc0_scratch1

set_option backward.proofsInPublic true in
theorem inbW (p : Dev nD) : ∀ a, (![p.val, 0, 0, 0] : Fin 4 → ℕ) a + S1x2x256x512.size a ≤ S8x2x256x512.size a := by revert p; decide
set_option backward.proofsInPublic true in
theorem inbS (p : Dev nD) : ∀ a, (![p.val, 0, 0] : Fin 3 → ℕ) a + S1x1x32.size a ≤ S8x1x32.size a := by revert p; decide

abbrev rW (p : Dev nD) : Rect S8x2x256x512 := Rect.unit (s := S8x2x256x512) ![p.val, 0, 0, 0] S1x2x256x512.size (inbW p)
abbrev rS (p : Dev nD) : Rect S8x1x32 := Rect.unit (s := S8x1x32) ![p.val, 0, 0] S1x1x32.size (inbS p)

/-- Slot `p` of the gathered weights, as the copies name it. -/
abbrev slotW (p : Dev nD) : Memref sig .tc .vmem S2x256x512 .i8 := (wM.slice (rW p) (fun _ => rfl)).squeeze S2x256x512 squeezes_S1x2x256x512_S2x256x512
/-- Slot `p` of the gathered counts and scales. -/
abbrev slotS (p : Dev nD) : Memref sig .tc .vmem S1x32 .f32 := (sM.slice (rS p) (fun _ => rfl)).squeeze S1x32 squeezes_S1x1x32_S1x32

abbrev Nw : ℕ := (slotW 0).view.dmaCredit
abbrev Nc : ℕ := (slotS 0).view.dmaCredit
theorem Nw_pos : 0 < Nw := View.dmaCredit_pos _ (by decide)
theorem Nc_pos : 0 < Nc := View.dmaCredit_pos _ (by decide)

theorem setW (p : Dev nD) : (slotW p).view.set = (rW p).set := by
  show ((wM.view.slice (rW p)).reshape _ _).set = _
  exact (View.set_reshape _ _).trans (View.set_slice_whole _ _)
theorem setS (p : Dev nD) : (slotS p).view.set = (rS p).set := by
  show ((sM.view.slice (rS p)).reshape _ _).set = _
  exact (View.set_reshape _ _).trans (View.set_slice_whole _ _)

/-- Slot `p` of device `c`'s gathered weights at share `q`, holding what `f` holds there. -/
def ptW (c p : Dev nD) (q : PosShare TreeShare) (f : (cc0_scratch0 : Ref sig .tc).ty.Contents (Elt F)) : sProp 𝕄 :=
  (slotW p).view.loc (c : Thread nD τ) ↦[(slotW p).view.set]{q} f
/-- Slot `p` of device `c`'s gathered counts and scales. -/
def ptS (c p : Dev nD) (q : PosShare TreeShare) (f : (cc0_scratch1 : Ref sig .tc).ty.Contents (Elt F)) : sProp 𝕄 :=
  (slotS p).view.loc (c : Thread nD τ) ↦[(slotS p).view.set]{q} f

omit [FloatOps F] in
instance ptW_storable (c p : Dev nD) (q f) : BI.Storable (upEmb : UEmb _ 𝕄) (ptW (F := F) c p q f) := by unfold ptW; infer_instance
omit [FloatOps F] in
instance ptS_storable (c p : Dev nD) (q f) : BI.Storable (upEmb : UEmb _ 𝕄) (ptS (F := F) c p q f) := by unfold ptS; infer_instance

/-- Slot `p` of both of device `c`'s gathered buffers, whatever they hold. -/
def slots (c p : Dev nD) : sProp 𝕄 := iprop((∃ f, ptW c p fullShare f) ∗ (∃ f, ptS c p fullShare f))

/-! ## Contents -/

/-- Device `c`'s rows, their experts and its experts' weights, as the pipeline stages them. -/
def xIn (c : Dev nD) : (cc0_stg0_0 : Ref sig .tc).ty.Contents (Elt F) := (win0_0.blk (0 : Fin 1)).view.read (Elt F) (m ((c : Thread nD τ).loc main_arg0))
def eIn (c : Dev nD) : (cc0_stg1_0 : Ref sig .tc).ty.Contents (Elt F) := (win0_1.blk (0 : Fin 1)).view.read (Elt F) (m ((c : Thread nD τ).loc main_arg2))
def wIn (c : Dev nD) : (cc0_stg2_0 : Ref sig .tc).ty.Contents (Elt F) := (win0_2.blk (0 : Fin 1)).view.read (Elt F) (m ((c : Thread nD τ).loc main_arg3))

/-- Device `p`'s quantised weights, and its counts and scale, as it stores them in its own slots. -/
def qw (p : Dev nD) : Vec F S1x2x256x512 .i8 := k0_pay6 (wIn m p)
def side (p : Dev nD) : Vec F S1x1x32 .f32 := k0_pay5 (eIn m p) (wIn m p)

set_option backward.proofsInPublic true in
/-- The place in one slot of a place in the gathered weights (side) buffer. -/
def inW (i : S8x2x256x512.Idx) : S1x2x256x512.Idx
  | 0 => (⟨0, by decide⟩ : Fin 1) | 1 => (i 1 : Fin 2) | 2 => (i 2 : Fin 256) | 3 => (i 3 : Fin 512)
set_option backward.proofsInPublic true in
def inS (i : S8x1x32.Idx) : S1x1x32.Idx
  | 0 => (⟨0, by decide⟩ : Fin 1) | 1 => (i 1 : Fin 1) | 2 => (i 2 : Fin 32)

/-- What the gathered weights buffer of every device ends up holding: slot `p` device `p`'s quantised weights; -/
def WG : (cc0_scratch0 : Ref sig .tc).ty.Contents (Elt F) := fun i => qw m (i 0) (inW i)
/-- and the gathered side buffer: slot `p` device `p`'s counts and scale. -/
def SG : (cc0_scratch1 : Ref sig .tc).ty.Contents (Elt F) := fun i => side m (i 0) (inS i)

end Cert.Moe

end
-- ==== Proof.Sched.lean ====
/-
# The schedule of the exchange: duties, amounts, payloads, levels, and what each device owes
-/
module

public import proofs.«01_k».proof.Proof.Proto

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-! ## The schedule -/

/-- What one duty of a cell of device `c` hands over. -/
def pay (c : Dev nD) (d : Fin 7) : Ci → sProp 𝕄
  | none => slots (shl c d) c
  | some (0, j) => ptW c c (shareTok fullShare 7 j) (WG m)
  | some (1, j) => ptW c (shr c j) fullShare (WG m)
  | some (2, j) => ptS c c (shareTok fullShare 7 j) (SG m)
  | some (3, j) => ptS c (shr c j) fullShare (SG m)

/-- How much it adds to the cell's counter. -/
def amt : Ci → ℕ
  | none => 1
  | some (0, _) => Nw
  | some (1, _) => Nw
  | some (2, _) => Nc
  | some (3, _) => Nc

/-- Which duties the cell's one round has. -/
def dut : Ci → Finset (Fin 7)
  | none => Finset.univ
  | some _ => {0}

theorem amt_pos : ∀ k : Ci, 0 < amt k
  | none => Nat.one_pos
  | some (0, _) => Nw_pos
  | some (1, _) => Nw_pos
  | some (2, _) => Nc_pos
  | some (3, _) => Nc_pos

instance pay_storable (c : Dev nD) (d : Fin 7) : ∀ k : Ci, BI.Storable (upEmb : UEmb _ 𝕄) (pay (F := F) m c d k)
  | none => by unfold pay slots; infer_instance
  | some (0, _) => by unfold pay; infer_instance
  | some (1, _) => by unfold pay; infer_instance
  | some (2, _) => by unfold pay; infer_instance
  | some (3, _) => by unfold pay; infer_instance

/-- Every cell of the exchange has one round, round 0. -/
def rd : Rounds.Schedule (GSem nD τ sig) (Fin 7) 𝕄 where
  duties g r := if r = 0 ∧ g.1.2 = .tc then (kind g.2).elim ∅ dut else ∅
  unitless _ := False
  amount g _ _ := (kind g.2).elim 1 amt
  payload g _ d := (kind g.2).elim iprop(emp) (pay m g.1.1 d)
  amount_pos g _ _ _ := by
    cases kind g.2 with
    | none => exact Nat.one_pos
    | some k => exact amt_pos k

instance rd_payload_storable (g : GSem nD τ sig) (r : ℕ) (d : Fin 7) : BI.Storable (upEmb : UEmb _ 𝕄) ((rd (F := F) m).payload g r d) := by
  show BI.Storable upEmb ((kind g.2).elim iprop(emp) (pay m g.1.1 d))
  cases kind g.2 with
  | none => exact (inferInstance : BI.Storable (upEmb : UEmb _ 𝕄) iprop(emp))
  | some k => exact pay_storable m g.1.1 d k

theorem duties_eq (c : Dev nD) (k : Ci) : (rd (F := F) m).duties (kcell (c, k)) 0 = dut k := by
  show (if (0 : ℕ) = 0 ∧ (c : Thread nD τ).2 = .tc then (kind (csem k)).elim ∅ dut else ∅) = dut k
  rw [if_pos ⟨rfl, rfl⟩, kind_csem]; rfl
theorem duties_later (g : GSem nD τ sig) (r : ℕ) (hr : 1 ≤ r) : (rd (F := F) m).duties g r = ∅ :=
  if_neg fun h => by omega
theorem amount_eq (c : Dev nD) (k : Ci) (d : Fin 7) : (rd (F := F) m).amount (kcell (c, k)) 0 d = amt k := by
  show (kind (csem k)).elim 1 amt = amt k
  rw [kind_csem]; rfl
theorem payload_eq (c : Dev nD) (k : Ci) (d : Fin 7) : (rd (F := F) m).payload (kcell (c, k)) 0 d = pay m c d k := by
  show (kind (csem k)).elim iprop(emp) (pay m c d) = pay m c d k
  rw [kind_csem]; rfl
theorem expect_eq (c : Dev nD) (k : Ci) : (rd (F := F) m).expect (kcell (c, k)) 0 = (dut k).card * amt k := by
  unfold Schedule.expect Schedule.amountOf
  rw [duties_eq, Finset.sum_congr rfl fun d _ => amount_eq m c k d, Finset.sum_const, smul_eq_mul]
/-- A whole round's payloads: every duty's. -/
theorem rest_eq (c : Dev nD) (k : Ci) :
    bigSep ((rd (F := F) m).duties (kcell (c, k)) 0 \ ∅) (fun d => (rd (F := F) m).payload (kcell (c, k)) 0 d) = bigSep (dut k) fun d => pay m c d k := by
  rw [Finset.sdiff_empty, duties_eq]; exact bigSep_congr fun d _ => payload_eq m c k d
/-- A one-duty round's payload. -/
theorem rest_one (c : Dev nD) (x : Fin 4 × Fin 7) :
    bigSep ((rd (F := F) m).duties (kcell (c, some x)) 0 \ ∅) (fun d => (rd (F := F) m).payload (kcell (c, some x)) 0 d) = pay m c 0 (some x) := by
  rw [rest_eq]; exact bigSep_singleton

/-! ## Families over the seven transfers: what is left from `n` on, what is done below `n` -/

/-- The transfers from `n` on; -/
def from' (n : ℕ) : Finset (Fin 7) := Finset.univ.filter fun j => n ≤ j.val
/-- and those below `n`. -/
def upto (n : ℕ) : Finset (Fin 7) := Finset.univ.filter fun j => j.val < n

theorem from_zero : from' 0 = Finset.univ := by decide
theorem from_seven : from' 7 = ∅ := by decide
theorem upto_zero : upto 0 = ∅ := by decide
theorem upto_seven : upto 7 = Finset.univ := by decide
theorem from_peel (j : Fin 7) : from' j.val = insert j (from' (j.val + 1)) ∧ j ∉ from' (j.val + 1) := by revert j; decide
theorem upto_push (j : Fin 7) : upto (j.val + 1) = insert j (upto j.val) ∧ j ∉ upto j.val := by revert j; decide

theorem left_peel (j : Fin 7) (Φ : Fin 7 → sProp 𝕄) : bigSep (from' j.val) Φ = iprop(Φ j ∗ bigSep (from' (j.val + 1)) Φ) := by
  rw [(from_peel j).1, bigSep_insert (from_peel j).2]; rfl
theorem done_push (j : Fin 7) (Φ : Fin 7 → sProp 𝕄) : bigSep (upto (j.val + 1)) Φ = iprop(Φ j ∗ bigSep (upto j.val) Φ) := by
  rw [(upto_push j).1, bigSep_insert (upto_push j).2]; rfl

/-! ## What each device owes; the levels -/

/-- The credit `c` still owes for its weight transfers from `n` on, for its side transfers from `n` on, and the units
    it still owes the barrier semaphores from `n` on. -/
def oW (c : Dev nD) (n : ℕ) : CellTallies nD τ sig Unit := ∑ j ∈ from' n, tallyAt (rcvW (shl c j) j) () Nw
def oC (c : Dev nD) (n : ℕ) : CellTallies nD τ sig Unit := ∑ j ∈ from' n, tallyAt (rcvC (shl c j) j) () Nc
def oB (c : Dev nD) (n : ℕ) : CellTallies nD τ sig Unit := ∑ j ∈ from' n, tallyAt (barC (shl c j)) () 1
/-- What `c` owes at launch. -/
def O₀ (c : Dev nD) : CellTallies nD τ sig Unit := oB c 0 + (oW c 0 + oC c 0)

theorem oW_peel (c : Dev nD) (j : Fin 7) : oW c j.val = oW c (j.val + 1) + tallyAt (rcvW (shl c j) j) () Nw := by
  unfold oW; rw [(from_peel j).1, Finset.sum_insert (from_peel j).2, add_comm]
theorem oC_peel (c : Dev nD) (j : Fin 7) : oC c j.val = oC c (j.val + 1) + tallyAt (rcvC (shl c j) j) () Nc := by
  unfold oC; rw [(from_peel j).1, Finset.sum_insert (from_peel j).2, add_comm]
theorem oB_peel (c : Dev nD) (j : Fin 7) : oB c j.val = oB c (j.val + 1) + tallyAt (barC (shl c j)) () 1 := by
  unfold oB; rw [(from_peel j).1, Finset.sum_insert (from_peel j).2, add_comm]
theorem oW_end (c : Dev nD) : oW c 7 = 0 := by unfold oW; rw [from_seven, Finset.sum_empty]
theorem oC_end (c : Dev nD) : oC c 7 = 0 := by unfold oC; rw [from_seven, Finset.sum_empty]
theorem oB_end (c : Dev nD) : oB c 7 = 0 := by unfold oB; rw [from_seven, Finset.sum_empty]

/-- Every TensorCore's cells have a level: -/
def L (g : GSem nD τ sig) : Finset Unit := if g.1.2 = .tc then {()} else ∅
/-- the barrier's 1, a receive cell's 2, every other's 0. -/
def lv (g : GSem nD τ sig) (_ : Unit) : ℕ :=
  match kind g.2 with
  | none => 0
  | some none => 1
  | some (some (s, _)) => if s = 1 ∨ s = 3 then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : Ci) : lv (kcell (c, k)) () = match k with | none => 1 | some (s, _) => if s = 1 ∨ s = 3 then 2 else 0 := by
  unfold lv; rw [show (kcell (c, k)).2 = csem k from rfl, kind_csem]; cases k <;> rfl

theorem tsum_apply {ι : Type} (S : Finset ι) (f : ι → CellTallies nD τ sig Unit) (g : GSem nD τ sig) (u : Unit) :
    (∑ j ∈ S, f j) g u = ∑ j ∈ S, f j g u := by
  classical
  induction S using Finset.induction_on with
  | empty => rfl
  | insert a S ha ih => rw [Finset.sum_insert ha, Finset.sum_insert ha, Pi.add_apply, Finsupp.add_apply, ih]

theorem tsum_pos {S : Finset (Fin 7)} {f : Fin 7 → GSem nD τ sig} {n : ℕ} {g : GSem nD τ sig} {u : Unit}
    (h : 0 < (∑ j ∈ S, tallyAt (f j) () n : CellTallies nD τ sig Unit) g u) : ∃ j, g = f j := by
  rw [tsum_apply] at h
  obtain ⟨j, -, hj⟩ := Finset.exists_ne_zero_of_sum_ne_zero (Nat.pos_iff_ne_zero.mp h)
  refine ⟨j, ?_⟩
  by_contra hn
  rw [tallyAt_apply, if_neg fun h' => hn h'.1] at hj
  exact hj rfl

/-- What is owed for the transfers is owed to receive cells of TensorCores. -/
theorem owed_recv_pos {c : Dev nD} {a b : ℕ} {g : GSem nD τ sig} {u : Unit} (h : 0 < (oW c a + oC c b) g u) :
    ∃ d k, g = kcell (d, k) ∧ lv (kcell (d, k)) () = 2 := by
  rw [Pi.add_apply, Finsupp.add_apply] at h
  rcases Nat.add_pos_iff_pos_or_pos.mp h with h | h
  · obtain ⟨j, rfl⟩ := tsum_pos h; exact ⟨_, _, rfl, by rw [lv_cell]; rfl⟩
  · obtain ⟨j, rfl⟩ := tsum_pos h; exact ⟨_, _, rfl, by rw [lv_cell]; rfl⟩

theorem O₀_pos {c : Dev nD} {g : GSem nD τ sig} {u : Unit} (h : 0 < O₀ c g u) : ∃ d k, g = kcell (d, k) ∧ 0 < lv (kcell (d, k)) () := by
  unfold O₀ at h
  rw [Pi.add_apply, Finsupp.add_apply] at h
  rcases Nat.add_pos_iff_pos_or_pos.mp h with h | h
  · obtain ⟨j, rfl⟩ := tsum_pos h; exact ⟨_, _, rfl, by rw [lv_cell]; exact Nat.one_pos⟩
  · obtain ⟨d, k, hg, hl⟩ := owed_recv_pos h; exact ⟨d, k, hg, by rw [hl]; decide⟩

omit [FloatOps F] in
/-- The pipeline's own waits come before everything a device owes. -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨d, k, rfl, -⟩ := O₀_pos hg; exact Finset.mem_singleton_self _)
      (fun p hp => by
        rw [Finset.mem_singleton.mp hp]
        have : kind (.dma q) = none := if_neg (by omega)
        unfold lv; rw [show ((c : Thread nD τ), SemLoc.dma q).2 = .dma q from rfl, this])
      (fun g u hg => by obtain ⟨d, k, rfl, hl⟩ := O₀_pos hg; exact hl)
  · rw [MayWait_zero]; iintro -; iempintro

omit [FloatOps F] in
/-- A device waits at its barrier owing its transfers only. -/
theorem mayWait_bar (c : Dev nD) : (levAts L lv : sProp 𝕄) ⊢ MayWait (c : Thread nD τ) (.reg barS) () (oW c 0 + oC c 0) :=
  MayOwe.of_cut (L := L) (lev := lv) 1 (fun p hp => by rw [Finset.mem_singleton.mp hp, L_tc]; exact Finset.mem_singleton_self _)
    (fun g u hg => by obtain ⟨d, k, rfl, -⟩ := owed_recv_pos hg; exact Finset.mem_singleton_self _)
    (fun p hp => by
      rw [Finset.mem_singleton.mp hp]
      exact (lv_cell c none).le)
    (fun g u hg => by obtain ⟨d, k, rfl, hl⟩ := owed_recv_pos hg; show 1 < lv _ (); rw [hl]; decide)

end Cert.Moe

end
-- ==== Proof.Slots.lean ====
/-
# The contents of the slots: what a store, a landing and a load leave and read
-/
module

public import proofs.«01_k».proof.Proof.Sched

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-! ## Reading one slot of the gathered contents -/

/-- Slot `p` of the gathered weights reads as device `p`'s quantised weights. -/
theorem readW (p : Dev nD) : (wM.access (rW p)).read (Elt F) (WG m) = qw m p := by
  funext j
  show WG m ((rW p).emb j) = _
  have h0 : ((rW p).emb j : S8x2x256x512.Idx) 0 = p := Fin.ext (by
    show p.val + 1 * (j 0).val = p.val
    have : (j 0).val < 1 := (j 0).isLt
    omega)
  have h1 : inW ((rW p).emb j) = j := by
    funext a
    have : (j 0).val < 1 := (j 0).isLt
    fin_cases a <;> refine Fin.ext ?_
    · show (0 : ℕ) = (j 0).val; omega
    · show 0 + 1 * (j 1).val = (j 1).val; omega
    · show 0 + 1 * (j 2).val = (j 2).val; omega
    · show 0 + 1 * (j 3).val = (j 3).val; omega
  show qw m (((rW p).emb j : S8x2x256x512.Idx) 0) (inW ((rW p).emb j)) = _
  rw [h1, h0]

/-- Slot `p` of the gathered side buffer reads as device `p`'s counts and scale. -/
theorem readS (p : Dev nD) : (sM.access (rS p)).read (Elt F) (SG m) = side m p := by
  funext j
  show SG m ((rS p).emb j) = _
  have h0 : ((rS p).emb j : S8x1x32.Idx) 0 = p := Fin.ext (by
    show p.val + 1 * (j 0).val = p.val
    have : (j 0).val < 1 := (j 0).isLt
    omega)
  have h1 : inS ((rS p).emb j) = j := by
    funext a
    have : (j 0).val < 1 := (j 0).isLt
    fin_cases a <;> refine Fin.ext ?_
    · show (0 : ℕ) = (j 0).val; omega
    · show 0 + 1 * (j 1).val = (j 1).val; omega
    · show 0 + 1 * (j 2).val = (j 2).val; omega
  show side m (((rS p).emb j : S8x1x32.Idx) 0) (inS ((rS p).emb j)) = _
  rw [h1, h0]

set_option backward.proofsInPublic true in
theorem inbD (p : Dev nD) : ∀ a, (![p.val, 0, 16] : Fin 3 → ℕ) a + S1x1x1.size a ≤ S8x1x32.size a := by revert p; decide
/-- The scale's place in slot `p`. -/
abbrev rD (p : Dev nD) : Rect S8x1x32 := Rect.unit (s := S8x1x32) ![p.val, 0, 16] S1x1x1.size (inbD p)

set_option backward.proofsInPublic true in
/-- A place in a slot's counts, and the scale's place. -/
def atN (k : Fin 32) : S1x1x32.Idx
  | 0 => (⟨0, by decide⟩ : Fin 1) | 1 => (⟨0, by decide⟩ : Fin 1) | 2 => (k : Fin 32)

/-- The scale of device `p`'s weights, as the load of it returns it. -/
def dq (p : Dev nD) : Vec F S1x1x1 .f32 := fun _ => side m p (atN 16)
/-- The counts of every device, as the load of them returns them. -/
def cnts : Vec F S8x1x16 .f32 := fun i => side m (i 0) (atN ((i 2 : Fin 16).castLE (by decide)))

theorem readD (p : Dev nD) : (sM.access (rD p)).read (Elt F) (SG m) = dq m p := by
  funext j
  have e0 : (j 0).val < 1 := (j 0).isLt
  have e1 : (j 1).val < 1 := (j 1).isLt
  have e2 : (j 2).val < 1 := (j 2).isLt
  have h0 : ((rD p).emb j : S8x1x32.Idx) 0 = p := Fin.ext (by
    show p.val + 1 * (j 0).val = p.val
    omega)
  have h1 : inS ((rD p).emb j) = atN 16 := by
    funext a
    fin_cases a <;> refine Fin.ext ?_
    · rfl
    · show 0 + 1 * (j 1).val = 0; omega
    · show 16 + 1 * (j 2).val = 16; omega
  show side m (((rD p).emb j : S8x1x32.Idx) 0) (inS ((rD p).emb j)) = _
  rw [h1, h0]; rfl

/-- The rectangle of every device's counts. -/
abbrev rN : Rect S8x1x32 := Rect.unit (s := S8x1x32) ![0, 0, 0] S8x1x16.size inb_S8x1x32_S8x1x16_0_0_0

theorem readN : (sM.access rN).read (Elt F) (SG m) = cnts m := by
  funext j
  have e1 : (j 1).val < 1 := (j 1).isLt
  have h0 : (rN.emb j : S8x1x32.Idx) 0 = j 0 := Fin.ext (by
    show 0 + 1 * (j 0).val = (j 0).val
    omega)
  have h1 : inS (rN.emb j) = atN ((j 2 : Fin 16).castLE (by decide)) := by
    funext a
    fin_cases a <;> refine Fin.ext ?_
    · rfl
    · show 0 + 1 * (j 1).val = 0; omega
    · show 0 + 1 * (j 2).val = (j 2).val; omega
  show side m ((rN.emb j : S8x1x32.Idx) 0) (inS (rN.emb j)) = _
  rw [h1, h0]; rfl

/-! ## Points-tos under writes -/

/-- Where a view has been written with what it reads of `g`, it holds `g`. -/
theorem pt_written {sp : Space} {s : Shape} {e : EltTy} (v : View sig .tc sp s e) (c : Dev nD) (q : PosShare TreeShare)
    (f g : v.ty.Contents (Elt F)) :
    (v.loc (c : Thread nD τ) ↦[v.set]{q} v.write (Elt F) f (v.read (Elt F) g) Finset.univ : sProp 𝕄) = (v.loc (c : Thread nD τ) ↦[v.set]{q} g) :=
  pointsTo_congr fun i hi => by
    rw [View.write_read_eq_piecewise, Finset.piecewise_eq_of_mem _ _ _ (by rw [View.setOn_univ]; exact hi)]

/-- Device `c`'s own slot once its quantised weights are stored in it; -/
theorem stored_W (c p : Dev nD) (q : PosShare TreeShare) (f : (cc0_scratch0 : Ref sig .tc).ty.Contents (Elt F)) :
    ptW c p q ((wM.access (rW p)).write (Elt F) f (qw m p) Finset.univ) = ptW c p q (WG m) := by
  unfold ptW
  rw [← readW m p]
  exact pointsTo_congr fun i hi => by
    rw [View.write_read_eq_piecewise, Finset.piecewise_eq_of_mem _ _ _ (by rw [View.setOn_univ, View.set_slice_whole, ← setW]; exact hi)]
/-- and once its counts and scale are. -/
theorem stored_S (c p : Dev nD) (q : PosShare TreeShare) (f : (cc0_scratch1 : Ref sig .tc).ty.Contents (Elt F)) :
    ptS c p q ((sM.access (rS p)).write (Elt F) f (side m p) Finset.univ) = ptS c p q (SG m) := by
  unfold ptS
  rw [← readS m p]
  exact pointsTo_congr fun i hi => by
    rw [View.write_read_eq_piecewise, Finset.piecewise_eq_of_mem _ _ _ (by rw [View.setOn_univ, View.set_slice_whole, ← setS]; exact hi)]

/-! ## The whole buffers as their eight slots -/

theorem slotsW_disjoint (p p' : Dev nD) (h : p ≠ p') : Disjoint (rW p).set (rW p').set := by
  rw [Finset.disjoint_left]
  intro i hi hi'
  obtain ⟨a, ha, e⟩ := (LoadRect.mem_set _).mp hi 0
  obtain ⟨b, hb, e'⟩ := (LoadRect.mem_set _).mp hi' 0
  have ha' : a < 1 := ha
  have hb' : b < 1 := hb
  have e1 : (i 0).val = p.val + 1 * a := e
  have e2 : (i 0).val = p'.val + 1 * b := e'
  exact h (Fin.ext (by omega))
theorem slotsS_disjoint (p p' : Dev nD) (h : p ≠ p') : Disjoint (rS p).set (rS p').set := by
  rw [Finset.disjoint_left]
  intro i hi hi'
  obtain ⟨a, ha, e⟩ := (LoadRect.mem_set _).mp hi 0
  obtain ⟨b, hb, e'⟩ := (LoadRect.mem_set _).mp hi' 0
  have ha' : a < 1 := ha
  have hb' : b < 1 := hb
  have e1 : (i 0).val = p.val + 1 * a := e
  have e2 : (i 0).val = p'.val + 1 * b := e'
  exact h (Fin.ext (by omega))

theorem slotsW_cover : Finset.univ.biUnion (fun p : Dev nD => (rW p).set) = Finset.univ := by
  refine Finset.eq_univ_of_forall fun i => Finset.mem_biUnion.mpr ⟨(i 0 : Fin 8), Finset.mem_univ _, (LoadRect.mem_set _).mpr fun a => ?_⟩
  fin_cases a
  · exact ⟨0, Nat.one_pos, rfl⟩
  · exact ⟨(i 1).val, (i 1).isLt, show (i 1).val = 0 + 1 * (i 1).val by omega⟩
  · exact ⟨(i 2).val, (i 2).isLt, show (i 2).val = 0 + 1 * (i 2).val by omega⟩
  · exact ⟨(i 3).val, (i 3).isLt, show (i 3).val = 0 + 1 * (i 3).val by omega⟩
theorem slotsS_cover : Finset.univ.biUnion (fun p : Dev nD => (rS p).set) = Finset.univ := by
  refine Finset.eq_univ_of_forall fun i => Finset.mem_biUnion.mpr ⟨(i 0 : Fin 8), Finset.mem_univ _, (LoadRect.mem_set _).mpr fun a => ?_⟩
  fin_cases a
  · exact ⟨0, Nat.one_pos, rfl⟩
  · exact ⟨(i 1).val, (i 1).isLt, show (i 1).val = 0 + 1 * (i 1).val by omega⟩
  · exact ⟨(i 2).val, (i 2).isLt, show (i 2).val = 0 + 1 * (i 2).val by omega⟩

/-- The gathered weights buffer is its eight slots; -/
theorem wholeW (c : Dev nD) (q : PosShare TreeShare) (f : (cc0_scratch0 : Ref sig .tc).ty.Contents (Elt F)) :
    ((c : Thread nD τ).loc cc0_scratch0 ↦{q} f : sProp 𝕄) = bigSep Finset.univ fun p : Dev nD => ptW c p q f := by
  refine (congrArg (fun S => ((c : Thread nD τ).loc cc0_scratch0 ↦[S]{q} f : sProp 𝕄)) slotsW_cover.symm).trans ?_
  refine (pointsTo_biUnion (ℓ := (c : Thread nD τ).loc cc0_scratch0) Finset.univ (fun p : Dev nD => (rW p).set) (fun p _ p' _ h => slotsW_disjoint p p' h)).trans ?_
  exact bigSep_congr fun p _ => by unfold ptW; rw [setW]
/-- so is the side buffer. -/
theorem wholeS (c : Dev nD) (q : PosShare TreeShare) (f : (cc0_scratch1 : Ref sig .tc).ty.Contents (Elt F)) :
    ((c : Thread nD τ).loc cc0_scratch1 ↦{q} f : sProp 𝕄) = bigSep Finset.univ fun p : Dev nD => ptS c p q f := by
  refine (congrArg (fun S => ((c : Thread nD τ).loc cc0_scratch1 ↦[S]{q} f : sProp 𝕄)) slotsS_cover.symm).trans ?_
  refine (pointsTo_biUnion (ℓ := (c : Thread nD τ).loc cc0_scratch1) Finset.univ (fun p : Dev nD => (rS p).set) (fun p _ p' _ h => slotsS_disjoint p p' h)).trans ?_
  exact bigSep_congr fun p _ => by unfold ptS; rw [setS]

/-- A family over the devices: device `c`'s own place, and the other seven. -/
theorem univ_around (c : Dev nD) (Φ : Dev nD → sProp 𝕄) :
    bigSep Finset.univ Φ = iprop(Φ c ∗ bigSep Finset.univ fun j : Fin 7 => Φ (shl c j)) := by
  have hu : (Finset.univ : Finset (Dev nD)) = insert c (Finset.univ.map ⟨shl c, fun a b h => by revert a b c; decide⟩) := by
    revert c; decide
  have hn : c ∉ Finset.univ.map (⟨shl c, fun a b h => by revert a b c; decide⟩ : Fin 7 ↪ Dev nD) := by
    revert c; decide
  rw [hu, bigSep_insert hn, bigSep_map]
  rfl
/-- The same, the seven counted backwards. -/
theorem univ_around' (c : Dev nD) (Φ : Dev nD → sProp 𝕄) :
    bigSep Finset.univ Φ = iprop(Φ c ∗ bigSep Finset.univ fun j : Fin 7 => Φ (shr c j)) := by
  rw [univ_around c Φ, bigSep_univ_equiv Fin.revPerm (fun j => Φ (shl c j))]
  congr 1

end Cert.Moe

end
-- ==== Proof.Steps.lean ====
/-
# One step of the exchange at a time: signals, the barrier wait, transfers, waits
-/
module

public import proofs.«01_k».proof.Proof.Slots

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The invariants, known to every device -/

/-- Every cell's invariant, at the names `K`, and that every cell has reached its round 0. -/
def records (K : Dev nD × Ci → ℕ) : sProp 𝕄 :=
  iprop((bigSep Finset.univ fun ck : Dev nD × Ci => cellInv ER (rd m) (K ck) (kcell ck))
    ∗ bigSep Finset.univ fun ck : Dev nD × Ci => reached ER (kcell ck) 0)

instance records_persistent (K : Dev nD × Ci → ℕ) : BI.Persistent (records m K) := by unfold records; infer_instance

theorem inv_of (K : Dev nD × Ci → ℕ) (ck : Dev nD × Ci) : records m K ⊢ cellInv ER (rd m) (K ck) (kcell ck) := by
  unfold records
  exact sep_elim_left.trans (bigSep_elim (Finset.mem_univ ck))
theorem reached_of (K : Dev nD × Ci → ℕ) (ck : Dev nD × Ci) : records m K ⊢ reached ER (kcell ck) 0 := by
  unfold records
  exact sep_elim_right.trans (bigSep_elim (Finset.mem_univ ck))

/-! ## The signals and the barrier -/

/-- What device `c` hands over with its signal `j`: the duty, and its slots of the device signalled. -/
def toSignal (c : Dev nD) (j : Fin 7) : sProp 𝕄 := iprop(dutyTok ER (barC (shl c j)) 0 j.rev ∗ slots c (shl c j))

/-- Signal `n`. -/
theorem sig_step (K : Dev nD × Ci → ℕ) (c : Dev nD) (n : Fin 7) (X : CellTallies nD τ sig Unit) (W : Waits sig Unit) {dv : Dev nD} (hdv : dv = shl c n)
    {α : Type} {Q : α → sProp 𝕄} {k : PUnit → Prog (TpuEff nD τ sig (Elt F) Λ₀ .tc) α} :
    iprop(records m K ∗ owes (c : Thread nD τ) (oB c n.val + X) W ∗ bigSep (from' n.val) (toSignal c))
      ⊢ iprop((iprop(owes (c : Thread nD τ) (oB c (n.val + 1) + X) W ∗ bigSep (from' (n.val + 1)) (toSignal c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (dv : Thread nD τ) barS (1#32 : BitVec 32).toInt) k) Q) := by
  subst hdv
  rw [left_peel n (toSignal c)]
  unfold toSignal
  iintro ⟨#HR, HO, ⟨Ht, Hs⟩, Hrest⟩ Hk
  iapply (Rounds.wp_signal 𝒱₀ ER (rd m) (c : Thread nD τ) none (dst := (shl c n : Thread nD τ)) (κ := K (shl c n, none)) (r := 0)
      (d := n.rev) (by rw [show ((shl c n : Thread nD τ), SemLoc.reg barS) = barC (shl c n) from rfl, duties_eq]; exact Finset.mem_univ _)
      ((amount_eq m (shl c n) none n.rev).trans (by decide)) () (oB c (n.val + 1) + X) (O₀ := oB c n.val + X) (by rw [oB_peel c n, add_right_comm]; rfl) (W := W)) $$ [HO Ht Hs]
  · isplitr; · iapply (inv_of m K (shl c n, none)); iexact HR
    isplitl [HO]; · iexact HO
    isplitl [Ht]; · iexact Ht
    isplitl [Hs]
    · rw [show ((shl c n : Thread nD τ), SemLoc.reg barS) = barC (shl c n) from rfl, payload_eq]; unfold pay; rw [shl_shl_rev]; iexact Hs
    iapply (reached_of m K (shl c n, none)); iexact HR
  iintro HO
  iapply Hk
  isplitl [HO]; · iexact HO
  iexact Hrest

/-- The wait for the seven units: every other device's slots of this one. -/
theorem bar_step (K : Dev nD × Ci → ℕ) (c : Dev nD) (W : Waits sig Unit)
    {α : Type} {Q : α → sProp 𝕄} {k : PUnit → Prog (TpuEff nD τ sig (Elt F) Λ₀ .tc) α} :
    iprop(records m K ∗ levAts L lv ∗ owes (c : Thread nD τ) (oW c 0 + oC c 0) W ∗ cred (tallyAt (barC c) () 7) ∗ atPos ER (barC c) 0 ∅ 0)
      ⊢ iprop((iprop(owes (c : Thread nD τ) (oW c 0 + oC c 0) (insert (SemLoc.reg barS, ()) W) ∗ atPos ER (barC c) 1 ∅ 0
              ∗ bigSep Finset.univ (fun j => slots (shl c j) c))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (7#32 : BitVec 32).toInt) k) Q) := by
  iintro ⟨#HR, #Hlev, HO, Hc, Hat⟩ Hk
  iapply (Rounds.wp_wait_rest_token 𝒱₀ ER (rd m) (c : Thread nD τ) none (κ := K (c, none))
      (wpE_semWait_eq 𝒱₀ (c : Thread nD τ) none Set.univ) (Set.mem_univ _) () (O := oW c 0 + oC c 0) (W := W) (R := 0) (m := 0) (T := ∅)
      (by rw [show ((c : Thread nD τ), SemLoc.reg barS) = barC c from rfl, expect_eq]; decide)) $$ [Hc HO Hat]
  · isplitr; · iapply (inv_of m K (c, none)); iexact HR
    isplitl [Hc]; · iexact Hc
    isplitl [HO]; · iexact HO
    isplitr; · iapply (mayWait_bar c); iexact Hlev
    iexact Hat
  iintro ⟨HO, Hat, -, Hpay⟩
  ihave Hp := (Entails.of_eq (rest_eq m c none)) $$ Hpay
  iapply Hk
  isplitl [HO]; · iexact HO
  isplitl [Hat]; · iexact Hat
  iexact Hp

/-! ## The transfers -/

/-- What device `c` needs for its transfer `j` of its weights: the two duties, the destination slot handed over at the
    barrier, and a share of its own slot. -/
def toSendW (c : Dev nD) (j : Fin 7) : sProp 𝕄 :=
  iprop(dutyTok ER (sndW c j) 0 0 ∗ dutyTok ER (rcvW (shl c j) j) 0 0 ∗ (∃ f, ptW (shl c j) c fullShare f) ∗ ptW c c (shareTok fullShare 7 j) (WG m))

/-- A transfer of the own slot to the same slot of the device `n + 1` places on, in the exchange's terms. -/
theorem sendW_core (K : Dev nD × Ci → ℕ) (c : Dev nD) (n : Fin 7) (O : CellTallies nD τ sig Unit) (W : Waits sig Unit)
    {hsc : (slotW c : Memref sig (Dev.tc (shl c n) : Thread nD τ).2.kind .vmem S2x256x512 .i8).view.ref.isScScratch = false}
    {hsrc : (slotW c).view.WordExact} {hdst : (slotW c).view.WordExact}
    {hsem : DmaTarget.Typed .vmem (osem (1, n)) (.remote (Dev.tc (shl c n) : Thread nD τ) (slotW c : Memref sig (Dev.tc (shl c n) : Thread nD τ).2.kind .vmem S2x256x512 .i8) (osem (0, n)) hsc)}
    (fd : (cc0_scratch0 : Ref sig .tc).ty.Contents (Elt F))
    {α : Type} {Q : α → sProp 𝕄} {k : PUnit → Prog (TpuEff nD τ sig (Elt F) Λ₀ .tc) α} :
    iprop(cellInv ER (rd m) (K (c, some (0, n))) (sndW c n) ∗ cellInv ER (rd m) (K (shl c n, some (1, n))) (rcvW (shl c n) n)
        ∗ ptW c c (shareTok fullShare 7 n) (WG m) ∗ ptW (shl c n) c fullShare fd ∗ owes (c : Thread nD τ) (O + tallyAt (rcvW (shl c n) n) () Nw) W
        ∗ dutyTok ER (sndW c n) 0 0 ∗ reached ER (sndW c n) 0 ∗ dutyTok ER (rcvW (shl c n) n) 0 0 ∗ reached ER (rcvW (shl c n) n) 0)
      ⊢ iprop(((cred (tallyAt (sndW c n) () Nw) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotW c) (.remote (Dev.tc (shl c n) : Thread nD τ) (slotW c) (osem (0, n)) hsc) (osem (1, n)) hsrc hdst hsem) k) Q) := by
  have h1 : ((slotW c).view.loc (c : Thread nD τ) ↦[(slotW c).view.set]{shareTok fullShare 7 n} WG m : sProp 𝕄) ⊢ (rd m).payload (sndW c n) 0 0 := by
    rw [payload_eq]; exact BI.Entails.refl _
  have h2 : ((slotW c).view.loc (shl c n : Thread nD τ) ↦[(slotW c).view.set]{fullShare} (slotW c).view.write (Elt F) fd ((slotW c).view.read (Elt F) (WG m)) Finset.univ : sProp 𝕄) ⊢ (rd m).payload (rcvW (shl c n) n) 0 0 := by
    rw [payload_eq, pt_written, show pay m (shl c n) 0 (some (1, n)) = ptW (shl c n) (shr (shl c n) n) fullShare (WG m) from rfl, shr_shl]; exact BI.Entails.refl _
  have h3 : (0 : Fin 7) ∈ (rd (F := F) m).duties (sndW c n) 0 := by rw [duties_eq]; exact Finset.mem_singleton_self _
  have h4 : (0 : Fin 7) ∈ (rd (F := F) m).duties (rcvW (shl c n) n) 0 := by rw [duties_eq]; exact Finset.mem_singleton_self _
  have h5 : (slotW c).view.amount (osem (1, n)) = Nw := rfl
  have h6 : (rd (F := F) m).amount (sndW c n) 0 0 = Nw := amount_eq m c (some (0, n)) 0
  have h7 : (rd (F := F) m).amount (rcvW (shl c n) n) 0 0 = Nw := amount_eq m (shl c n) (some (1, n)) 0
  unfold ptW
  have := Rounds.wp_send_pointsTo (Q := Q) (k := k) 𝒱₀ ER (rd m) (c : Thread nD τ) none (defs := defs₀ (F := F)) (Γ := .empty) (c' := (shl c n : Thread nD τ))
    (src := slotW c) (dst := slotW c) (hsc := hsc) (hsrc := hsrc) (hdst := hdst) (hsem := hsem) (κ₁ := K (c, some (0, n))) (κ₂ := K (shl c n, some (1, n)))
    (r₁ := 0) (r₂ := 0) (d₁ := 0) (d₂ := 0) (fd := fd) (fs := WG m) h3 h4
    () () Nw h5 h6 h7 O rfl (W := W) (q := shareTok fullShare 7 n) h1 h2 (Es := Set.univ) (hr := by routes)
  exact this

/-- Transfer `n` of the weights. -/
theorem sendW_step (K : Dev nD × Ci → ℕ) (c : Dev nD) (n : Fin 7) (b : ℕ) (W : Waits sig Unit) {dv : Dev nD} (hdv : dv = shl c n)
    {src : Memref sig .tc .vmem S2x256x512 .i8} (hs : src = slotW c) {dst : Memref sig .tc .vmem S2x256x512 .i8} (hd : dst = slotW c)
    {ss rs : SemLoc sig} (hss : ss = osem (0, n)) (hrs : rs = osem (1, n))
    {hsc : (dst : Memref sig (Dev.tc dv : Thread nD τ).2.kind .vmem S2x256x512 .i8).view.ref.isScScratch = false}
    {hsrc : src.view.WordExact} {hdst : dst.view.WordExact}
    {hsem : DmaTarget.Typed .vmem rs (.remote (Dev.tc dv : Thread nD τ) (dst : Memref sig (Dev.tc dv : Thread nD τ).2.kind .vmem S2x256x512 .i8) ss hsc)}
    {α : Type} {Q : α → sProp 𝕄} {k : PUnit → Prog (TpuEff nD τ sig (Elt F) Λ₀ .tc) α} :
    iprop(records m K ∗ owes (c : Thread nD τ) (oW c n.val + oC c b) W ∗ bigSep (from' n.val) (toSendW m c) ∗ bigSep (upto n.val) (fun j => cred (tallyAt (sndW c j) () Nw)))
      ⊢ iprop((iprop(owes (c : Thread nD τ) (oW c (n.val + 1) + oC c b) W ∗ bigSep (from' (n.val + 1)) (toSendW m c) ∗ bigSep (upto (n.val + 1)) (fun j => cred (tallyAt (sndW c j) () Nw)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc dv : Thread nD τ) dst ss hsc) rs hsrc hdst hsem) k) Q) := by
  subst hdv hs hd hss hrs
  rw [left_peel n (toSendW m c), done_push n]
  unfold toSendW
  iintro ⟨#HR, HO, ⟨⟨Ht1, Ht2, ⟨%fd, Hd⟩, Hs⟩, Hrest⟩, Hdone⟩ Hk
  ihave HO := (Entails.of_eq (congrArg (fun O => (owes (c : Thread nD τ) O W : sProp 𝕄)) (show _ = (oW c (n.val + 1) + oC c b) + tallyAt (rcvW (shl c n) n) () Nw from by rw [oW_peel c n, add_right_comm]))) $$ HO
  iapply (sendW_core m K c n (oW c (n.val + 1) + oC c b) W fd) $$ [HO Ht1 Ht2 Hd Hs]
  · isplitr; · iapply (inv_of m K (c, some (0, n))); iexact HR
    isplitr; · iapply (inv_of m K (shl c n, some (1, n))); iexact HR
    isplitl [Hs]; · iexact Hs
    isplitl [Hd]; · iexact Hd
    isplitl [HO]; · iexact HO
    isplitl [Ht1]; · iexact Ht1
    isplitr; · iapply (reached_of m K (c, some (0, n))); iexact HR
    isplitl [Ht2]; · iexact Ht2
    iapply (reached_of m K (shl c n, some (1, n))); iexact HR
  iintro ⟨Hc, HO⟩
  iapply Hk
  isplitl [HO]; · iexact HO
  isplitl [Hrest]; · iexact Hrest
  isplitl [Hc]; · iexact Hc
  iexact Hdone

/-- What device `c` needs for its transfer `j` of its counts and scale: the two duties, the destination slot handed over at the
    barrier, and a share of its own slot. -/
def toSendC (c : Dev nD) (j : Fin 7) : sProp 𝕄 :=
  iprop(dutyTok ER (sndC c j) 0 0 ∗ dutyTok ER (rcvC (shl c j) j) 0 0 ∗ (∃ f, ptS (shl c j) c fullShare f) ∗ ptS c c (shareTok fullShare 7 j) (SG m))

/-- A transfer of the own slot to the same slot of the device `n + 1` places on, in the exchange's terms. -/
theorem sendC_core (K : Dev nD × Ci → ℕ) (c : Dev nD) (n : Fin 7) (O : CellTallies nD τ sig Unit) (W : Waits sig Unit)
    {hsc : (slotS c : Memref sig (Dev.tc (shl c n) : Thread nD τ).2.kind .vmem S1x32 .f32).view.ref.isScScratch = false}
    {hsrc : (slotS c).view.WordExact} {hdst : (slotS c).view.WordExact}
    {hsem : DmaTarget.Typed .vmem (osem (3, n)) (.remote (Dev.tc (shl c n) : Thread nD τ) (slotS c : Memref sig (Dev.tc (shl c n) : Thread nD τ).2.kind .vmem S1x32 .f32) (osem (2, n)) hsc)}
    (fd : (cc0_scratch1 : Ref sig .tc).ty.Contents (Elt F))
    {α : Type} {Q : α → sProp 𝕄} {k : PUnit → Prog (TpuEff nD τ sig (Elt F) Λ₀ .tc) α} :
    iprop(cellInv ER (rd m) (K (c, some (2, n))) (sndC c n) ∗ cellInv ER (rd m) (K (shl c n, some (3, n))) (rcvC (shl c n) n)
        ∗ ptS c c (shareTok fullShare 7 n) (SG m) ∗ ptS (shl c n) c fullShare fd ∗ owes (c : Thread nD τ) (O + tallyAt (rcvC (shl c n) n) () Nc) W
        ∗ dutyTok ER (sndC c n) 0 0 ∗ reached ER (sndC c n) 0 ∗ dutyTok ER (rcvC (shl c n) n) 0 0 ∗ reached ER (rcvC (shl c n) n) 0)
      ⊢ iprop(((cred (tallyAt (sndC c n) () Nc) ∗ owes (c : Thread nD τ) O W)
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotS c) (.remote (Dev.tc (shl c n) : Thread nD τ) (slotS c) (osem (2, n)) hsc) (osem (3, n)) hsrc hdst hsem) k) Q) := by
  have h1 : ((slotS c).view.loc (c : Thread nD τ) ↦[(slotS c).view.set]{shareTok fullShare 7 n} SG m : sProp 𝕄) ⊢ (rd m).payload (sndC c n) 0 0 := by
    rw [payload_eq]; exact BI.Entails.refl _
  have h2 : ((slotS c).view.loc (shl c n : Thread nD τ) ↦[(slotS c).view.set]{fullShare} (slotS c).view.write (Elt F) fd ((slotS c).view.read (Elt F) (SG m)) Finset.univ : sProp 𝕄) ⊢ (rd m).payload (rcvC (shl c n) n) 0 0 := by
    rw [payload_eq, pt_written, show pay m (shl c n) 0 (some (3, n)) = ptS (shl c n) (shr (shl c n) n) fullShare (SG m) from rfl, shr_shl]; exact BI.Entails.refl _
  have h3 : (0 : Fin 7) ∈ (rd (F := F) m).duties (sndC c n) 0 := by rw [duties_eq]; exact Finset.mem_singleton_self _
  have h4 : (0 : Fin 7) ∈ (rd (F := F) m).duties (rcvC (shl c n) n) 0 := by rw [duties_eq]; exact Finset.mem_singleton_self _
  have h5 : (slotS c).view.amount (osem (3, n)) = Nc := rfl
  have h6 : (rd (F := F) m).amount (sndC c n) 0 0 = Nc := amount_eq m c (some (2, n)) 0
  have h7 : (rd (F := F) m).amount (rcvC (shl c n) n) 0 0 = Nc := amount_eq m (shl c n) (some (3, n)) 0
  unfold ptS
  have := Rounds.wp_send_pointsTo (Q := Q) (k := k) 𝒱₀ ER (rd m) (c : Thread nD τ) none (defs := defs₀ (F := F)) (Γ := .empty) (c' := (shl c n : Thread nD τ))
    (src := slotS c) (dst := slotS c) (hsc := hsc) (hsrc := hsrc) (hdst := hdst) (hsem := hsem) (κ₁ := K (c, some (2, n))) (κ₂ := K (shl c n, some (3, n)))
    (r₁ := 0) (r₂ := 0) (d₁ := 0) (d₂ := 0) (fd := fd) (fs := SG m) h3 h4
    () () Nc h5 h6 h7 O rfl (W := W) (q := shareTok fullShare 7 n) h1 h2 (Es := Set.univ) (hr := by routes)
  exact this

/-- Transfer `n` of the counts and scale. -/
theorem sendC_step (K : Dev nD × Ci → ℕ) (c : Dev nD) (n : Fin 7) (b : ℕ) (W : Waits sig Unit) {dv : Dev nD} (hdv : dv = shl c n)
    {src : Memref sig .tc .vmem S1x32 .f32} (hs : src = slotS c) {dst : Memref sig .tc .vmem S1x32 .f32} (hd : dst = slotS c)
    {ss rs : SemLoc sig} (hss : ss = osem (2, n)) (hrs : rs = osem (3, n))
    {hsc : (dst : Memref sig (Dev.tc dv : Thread nD τ).2.kind .vmem S1x32 .f32).view.ref.isScScratch = false}
    {hsrc : src.view.WordExact} {hdst : dst.view.WordExact}
    {hsem : DmaTarget.Typed .vmem rs (.remote (Dev.tc dv : Thread nD τ) (dst : Memref sig (Dev.tc dv : Thread nD τ).2.kind .vmem S1x32 .f32) ss hsc)}
    {α : Type} {Q : α → sProp 𝕄} {k : PUnit → Prog (TpuEff nD τ sig (Elt F) Λ₀ .tc) α} :
    iprop(records m K ∗ owes (c : Thread nD τ) (oW c b + oC c n.val) W ∗ bigSep (from' n.val) (toSendC m c) ∗ bigSep (upto n.val) (fun j => cred (tallyAt (sndC c j) () Nc)))
      ⊢ iprop((iprop(owes (c : Thread nD τ) (oW c b + oC c (n.val + 1)) W ∗ bigSep (from' (n.val + 1)) (toSendC m c) ∗ bigSep (upto (n.val + 1)) (fun j => cred (tallyAt (sndC c j) () Nc)))
            -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc dv : Thread nD τ) dst ss hsc) rs hsrc hdst hsem) k) Q) := by
  subst hdv hs hd hss hrs
  rw [left_peel n (toSendC m c), done_push n]
  unfold toSendC
  iintro ⟨#HR, HO, ⟨⟨Ht1, Ht2, ⟨%fd, Hd⟩, Hs⟩, Hrest⟩, Hdone⟩ Hk
  ihave HO := (Entails.of_eq (congrArg (fun O => (owes (c : Thread nD τ) O W : sProp 𝕄)) (show _ = (oW c b + oC c (n.val + 1)) + tallyAt (rcvC (shl c n) n) () Nc from by rw [oC_peel c n, add_assoc]))) $$ HO
  iapply (sendC_core m K c n (oW c b + oC c (n.val + 1)) W fd) $$ [HO Ht1 Ht2 Hd Hs]
  · isplitr; · iapply (inv_of m K (c, some (2, n))); iexact HR
    isplitr; · iapply (inv_of m K (shl c n, some (3, n))); iexact HR
    isplitl [Hs]; · iexact Hs
    isplitl [Hd]; · iexact Hd
    isplitl [HO]; · iexact HO
    isplitl [Ht1]; · iexact Ht1
    isplitr; · iapply (reached_of m K (c, some (2, n))); iexact HR
    isplitl [Ht2]; · iexact Ht2
    iapply (reached_of m K (shl c n, some (3, n))); iexact HR
  iintro ⟨Hc, HO⟩
  iapply Hk
  isplitl [HO]; · iexact HO
  isplitl [Hrest]; · iexact Hrest
  isplitl [Hc]; · iexact Hc
  iexact Hdone

/-! ## The waits for them -/

/-- The wait for landing `n` of the weights: the slot of the device `n + 1` places before, holding its quantised weights. -/
theorem recvW_step (K : Dev nD × Ci → ℕ) (c : Dev nD) (n : Fin 7) (W : Waits sig Unit)
    {sm : DmaSem sig} (hsm : (SemLoc.dma sm : SemLoc sig) = osem (1, n))
    {src dst : Memref sig .tc .vmem S2x256x512 .i8} {h1 : src.view.WordExact} {h2 : dst.view.WordExact}
    {α : Type} {Q : α → sProp 𝕄} {k : PUnit → Prog (TpuEff nD τ sig (Elt F) Λ₀ .tc) α} :
    iprop(records m K ∗ owes (c : Thread nD τ) 0 W ∗ bigSep (from' n.val) (fun j => iprop(atPos ER (kcell (c, some (1, j))) 0 ∅ 0 ∗ cred (tallyAt (kcell (c, some (1, j))) () Nw)))
        ∗ bigSep (upto n.val) (fun j => iprop(atPos ER (kcell (c, some (1, j))) 1 ∅ 0 ∗ ptW c (shr c j) fullShare (WG m))))
      ⊢ iprop((iprop(owes (c : Thread nD τ) 0 (insert (SemLoc.dma sm, ()) W) ∗ bigSep (from' (n.val + 1)) (fun j => iprop(atPos ER (kcell (c, some (1, j))) 0 ∅ 0 ∗ cred (tallyAt (kcell (c, some (1, j))) () Nw)))
            ∗ bigSep (upto (n.val + 1)) (fun j => iprop(atPos ER (kcell (c, some (1, j))) 1 ∅ 0 ∗ ptW c (shr c j) fullShare (WG m))))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h1 h2) k) Q) := by
  have hsm' : sm = ⟨4 + 7 * 1 + n.val, by have := n.isLt; show _ < 32; omega⟩ := SemLoc.dma.inj hsm
  subst hsm'
  rw [left_peel n (fun j => iprop(atPos ER (kcell (c, some (1, j))) 0 ∅ 0 ∗ cred (tallyAt (kcell (c, some (1, j))) () Nw))), done_push n]
  iintro ⟨#HR, HO, ⟨⟨Hat, Hc⟩, Hrest⟩, Hdone⟩ Hk
  iapply (Rounds.wp_wait_rest_token 𝒱₀ ER (rd m) (c : Thread nD τ) none (κ := K (c, some (1, n)))
      (wpE_waitDma2_eq 𝒱₀ (c : Thread nD τ) none Set.univ) (Set.mem_univ _) () (O := 0) (W := W) (R := 0) (m := 0) (T := ∅)
      (by rw [Nat.zero_add, show dst.view.dmaCredit = Nw from rfl]; exact ((expect_eq m c (some (1, n))).trans (Nat.one_mul Nw)).symm)) $$ [Hc HO Hat]
  · isplitr; · iapply (inv_of m K (c, some (1, n))); iexact HR
    isplitl [Hc]; · iexact Hc
    isplitl [HO]; · iexact HO
    isplitr; · rw [MayWait_zero]; iempintro
    iexact Hat
  iintro ⟨HO, Hat, -, Hpay⟩
  ihave Hp := (Entails.of_eq ((rest_one m c (1, n)).trans (show pay m c 0 (some (1, n)) = ptW c (shr c n) fullShare (WG m) from rfl))) $$ Hpay
  iapply Hk
  isplitl [HO]; · iexact HO
  isplitl [Hrest]; · iexact Hrest
  isplitl [Hat Hp]
  · isplitl [Hat]; · iexact Hat
    iexact Hp
  iexact Hdone

/-- The wait for landing `n` of the counts and scale. -/
theorem recvC_step (K : Dev nD × Ci → ℕ) (c : Dev nD) (n : Fin 7) (W : Waits sig Unit)
    {sm : DmaSem sig} (hsm : (SemLoc.dma sm : SemLoc sig) = osem (3, n))
    {src dst : Memref sig .tc .vmem S1x32 .f32} {h1 : src.view.WordExact} {h2 : dst.view.WordExact}
    {α : Type} {Q : α → sProp 𝕄} {k : PUnit → Prog (TpuEff nD τ sig (Elt F) Λ₀ .tc) α} :
    iprop(records m K ∗ owes (c : Thread nD τ) 0 W ∗ bigSep (from' n.val) (fun j => iprop(atPos ER (kcell (c, some (3, j))) 0 ∅ 0 ∗ cred (tallyAt (kcell (c, some (3, j))) () Nc)))
        ∗ bigSep (upto n.val) (fun j => iprop(atPos ER (kcell (c, some (3, j))) 1 ∅ 0 ∗ ptS c (shr c j) fullShare (SG m))))
      ⊢ iprop((iprop(owes (c : Thread nD τ) 0 (insert (SemLoc.dma sm, ()) W) ∗ bigSep (from' (n.val + 1)) (fun j => iprop(atPos ER (kcell (c, some (3, j))) 0 ∅ 0 ∗ cred (tallyAt (kcell (c, some (3, j))) () Nc)))
            ∗ bigSep (upto (n.val + 1)) (fun j => iprop(atPos ER (kcell (c, some (3, j))) 1 ∅ 0 ∗ ptS c (shr c j) fullShare (SG m))))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h1 h2) k) Q) := by
  have hsm' : sm = ⟨4 + 7 * 3 + n.val, by have := n.isLt; show _ < 32; omega⟩ := SemLoc.dma.inj hsm
  subst hsm'
  rw [left_peel n (fun j => iprop(atPos ER (kcell (c, some (3, j))) 0 ∅ 0 ∗ cred (tallyAt (kcell (c, some (3, j))) () Nc))), done_push n]
  iintro ⟨#HR, HO, ⟨⟨Hat, Hc⟩, Hrest⟩, Hdone⟩ Hk
  iapply (Rounds.wp_wait_rest_token 𝒱₀ ER (rd m) (c : Thread nD τ) none (κ := K (c, some (3, n)))
      (wpE_waitDma2_eq 𝒱₀ (c : Thread nD τ) none Set.univ) (Set.mem_univ _) () (O := 0) (W := W) (R := 0) (m := 0) (T := ∅)
      (by rw [Nat.zero_add, show dst.view.dmaCredit = Nc from rfl]; exact ((expect_eq m c (some (3, n))).trans (Nat.one_mul Nc)).symm)) $$ [Hc HO Hat]
  · isplitr; · iapply (inv_of m K (c, some (3, n))); iexact HR
    isplitl [Hc]; · iexact Hc
    isplitl [HO]; · iexact HO
    isplitr; · rw [MayWait_zero]; iempintro
    iexact Hat
  iintro ⟨HO, Hat, -, Hpay⟩
  ihave Hp := (Entails.of_eq ((rest_one m c (3, n)).trans (show pay m c 0 (some (3, n)) = ptS c (shr c n) fullShare (SG m) from rfl))) $$ Hpay
  iapply Hk
  isplitl [HO]; · iexact HO
  isplitl [Hrest]; · iexact Hrest
  isplitl [Hat Hp]
  · isplitl [Hat]; · iexact Hat
    iexact Hp
  iexact Hdone

/-- The wait for transfer `n` of the weights to have been read: the share lent to it. -/
theorem sentW_step (K : Dev nD × Ci → ℕ) (c : Dev nD) (n : Fin 7) (W : Waits sig Unit)
    {sm : DmaSem sig} (hsm : (SemLoc.dma sm : SemLoc sig) = osem (0, n))
    {src dst : Memref sig .tc .vmem S2x256x512 .i8} {h1 : src.view.WordExact} {h2 : dst.view.WordExact}
    {α : Type} {Q : α → sProp 𝕄} {k : PUnit → Prog (TpuEff nD τ sig (Elt F) Λ₀ .tc) α} :
    iprop(records m K ∗ owes (c : Thread nD τ) 0 W ∗ bigSep (from' n.val) (fun j => iprop(atPos ER (kcell (c, some (0, j))) 0 ∅ 0 ∗ cred (tallyAt (kcell (c, some (0, j))) () Nw)))
        ∗ bigSep (upto n.val) (fun j => iprop(atPos ER (kcell (c, some (0, j))) 1 ∅ 0 ∗ ptW c c (shareTok fullShare 7 j) (WG m))))
      ⊢ iprop((iprop(owes (c : Thread nD τ) 0 (insert (SemLoc.dma sm, ()) W) ∗ bigSep (from' (n.val + 1)) (fun j => iprop(atPos ER (kcell (c, some (0, j))) 0 ∅ 0 ∗ cred (tallyAt (kcell (c, some (0, j))) () Nw)))
            ∗ bigSep (upto (n.val + 1)) (fun j => iprop(atPos ER (kcell (c, some (0, j))) 1 ∅ 0 ∗ ptW c c (shareTok fullShare 7 j) (WG m))))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h1 h2) k) Q) := by
  have hsm' : sm = ⟨4 + 7 * 0 + n.val, by have := n.isLt; show _ < 32; omega⟩ := SemLoc.dma.inj hsm
  subst hsm'
  rw [left_peel n (fun j => iprop(atPos ER (kcell (c, some (0, j))) 0 ∅ 0 ∗ cred (tallyAt (kcell (c, some (0, j))) () Nw))), done_push n]
  iintro ⟨#HR, HO, ⟨⟨Hat, Hc⟩, Hrest⟩, Hdone⟩ Hk
  iapply (Rounds.wp_wait_rest_token 𝒱₀ ER (rd m) (c : Thread nD τ) none (κ := K (c, some (0, n)))
      (wpE_waitDma2_eq 𝒱₀ (c : Thread nD τ) none Set.univ) (Set.mem_univ _) () (O := 0) (W := W) (R := 0) (m := 0) (T := ∅)
      (by rw [Nat.zero_add, show dst.view.dmaCredit = Nw from rfl]; exact ((expect_eq m c (some (0, n))).trans (Nat.one_mul Nw)).symm)) $$ [Hc HO Hat]
  · isplitr; · iapply (inv_of m K (c, some (0, n))); iexact HR
    isplitl [Hc]; · iexact Hc
    isplitl [HO]; · iexact HO
    isplitr; · rw [MayWait_zero]; iempintro
    iexact Hat
  iintro ⟨HO, Hat, -, Hpay⟩
  ihave Hp := (Entails.of_eq ((rest_one m c (0, n)).trans (show pay m c 0 (some (0, n)) = ptW c c (shareTok fullShare 7 n) (WG m) from rfl))) $$ Hpay
  iapply Hk
  isplitl [HO]; · iexact HO
  isplitl [Hrest]; · iexact Hrest
  isplitl [Hat Hp]
  · isplitl [Hat]; · iexact Hat
    iexact Hp
  iexact Hdone

/-- The wait for transfer `n` of the counts and scale to have been read. -/
theorem sentC_step (K : Dev nD × Ci → ℕ) (c : Dev nD) (n : Fin 7) (W : Waits sig Unit)
    {sm : DmaSem sig} (hsm : (SemLoc.dma sm : SemLoc sig) = osem (2, n))
    {src dst : Memref sig .tc .vmem S1x32 .f32} {h1 : src.view.WordExact} {h2 : dst.view.WordExact}
    {α : Type} {Q : α → sProp 𝕄} {k : PUnit → Prog (TpuEff nD τ sig (Elt F) Λ₀ .tc) α} :
    iprop(records m K ∗ owes (c : Thread nD τ) 0 W ∗ bigSep (from' n.val) (fun j => iprop(atPos ER (kcell (c, some (2, j))) 0 ∅ 0 ∗ cred (tallyAt (kcell (c, some (2, j))) () Nc)))
        ∗ bigSep (upto n.val) (fun j => iprop(atPos ER (kcell (c, some (2, j))) 1 ∅ 0 ∗ ptS c c (shareTok fullShare 7 j) (SG m))))
      ⊢ iprop((iprop(owes (c : Thread nD τ) 0 (insert (SemLoc.dma sm, ()) W) ∗ bigSep (from' (n.val + 1)) (fun j => iprop(atPos ER (kcell (c, some (2, j))) 0 ∅ 0 ∗ cred (tallyAt (kcell (c, some (2, j))) () Nc)))
            ∗ bigSep (upto (n.val + 1)) (fun j => iprop(atPos ER (kcell (c, some (2, j))) 1 ∅ 0 ∗ ptS c c (shareTok fullShare 7 j) (SG m))))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h1 h2) k) Q) := by
  have hsm' : sm = ⟨4 + 7 * 2 + n.val, by have := n.isLt; show _ < 32; omega⟩ := SemLoc.dma.inj hsm
  subst hsm'
  rw [left_peel n (fun j => iprop(atPos ER (kcell (c, some (2, j))) 0 ∅ 0 ∗ cred (tallyAt (kcell (c, some (2, j))) () Nc))), done_push n]
  iintro ⟨#HR, HO, ⟨⟨Hat, Hc⟩, Hrest⟩, Hdone⟩ Hk
  iapply (Rounds.wp_wait_rest_token 𝒱₀ ER (rd m) (c : Thread nD τ) none (κ := K (c, some (2, n)))
      (wpE_waitDma2_eq 𝒱₀ (c : Thread nD τ) none Set.univ) (Set.mem_univ _) () (O := 0) (W := W) (R := 0) (m := 0) (T := ∅)
      (by rw [Nat.zero_add, show dst.view.dmaCredit = Nc from rfl]; exact ((expect_eq m c (some (2, n))).trans (Nat.one_mul Nc)).symm)) $$ [Hc HO Hat]
  · isplitr; · iapply (inv_of m K (c, some (2, n))); iexact HR
    isplitl [Hc]; · iexact Hc
    isplitl [HO]; · iexact HO
    isplitr; · rw [MayWait_zero]; iempintro
    iexact Hat
  iintro ⟨HO, Hat, -, Hpay⟩
  ihave Hp := (Entails.of_eq ((rest_one m c (2, n)).trans (show pay m c 0 (some (2, n)) = ptS c c (shareTok fullShare 7 n) (SG m) from rfl))) $$ Hpay
  iapply Hk
  isplitl [HO]; · iexact HO
  isplitl [Hrest]; · iexact Hrest
  isplitl [Hat Hp]
  · isplitl [Hat]; · iexact Hat
    iexact Hp
  iexact Hdone

end Cert.Moe

end
-- ==== Proof.Ops.lean ====
/-
# The loads and stores of the body
-/
module

public import proofs.«01_k».proof.Proof.Steps

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-! ## What the printed offsets and devices are -/

theorem own3 (c : Dev nD) {h : ∀ a, (Rect.unit (s := S8x2x256x512) (k0_off3 c) S1x2x256x512.size (k0_off3_inb c)).stride a = 1} :
    (wM.slice (Rect.unit (s := S8x2x256x512) (k0_off3 c) S1x2x256x512.size (k0_off3_inb c)) h).squeeze S2x256x512 squeezes_S1x2x256x512_S2x256x512 = slotW c :=
  congrArg (fun M : Memref sig .tc .vmem S1x2x256x512 .i8 => M.squeeze S2x256x512 squeezes_S1x2x256x512_S2x256x512) (Memref.slice_unit_congr wM (k0_off3_eq c) _ _ _ _)
theorem own4 (c : Dev nD) {h : ∀ a, (Rect.unit (s := S8x1x32) (k0_off4 c) S1x1x32.size (k0_off4_inb c)).stride a = 1} :
    (sM.slice (Rect.unit (s := S8x1x32) (k0_off4 c) S1x1x32.size (k0_off4_inb c)) h).squeeze S1x32 squeezes_S1x1x32_S1x32 = slotS c :=
  congrArg (fun M : Memref sig .tc .vmem S1x1x32 .f32 => M.squeeze S1x32 squeezes_S1x1x32_S1x32) (Memref.slice_unit_congr sM (k0_off4_eq c) _ _ _ _)

theorem devB1 (c : Dev nD) : (⟨k0_dev1 c, k0_dev1_lt c⟩ : Dev nD) = shl c ⟨0, by decide⟩ := Fin.ext ((k0_dev1_eq c).trans (by show _ = (c.val + 0 + 1) % 8; rw [Nat.add_assoc]))
theorem devB2 (c : Dev nD) : (⟨k0_dev2 c, k0_dev2_lt c⟩ : Dev nD) = shl c ⟨1, by decide⟩ := Fin.ext ((k0_dev2_eq c).trans (by show _ = (c.val + 1 + 1) % 8; rw [Nat.add_assoc]))
theorem devB3 (c : Dev nD) : (⟨k0_dev3 c, k0_dev3_lt c⟩ : Dev nD) = shl c ⟨2, by decide⟩ := Fin.ext ((k0_dev3_eq c).trans (by show _ = (c.val + 2 + 1) % 8; rw [Nat.add_assoc]))
theorem devB4 (c : Dev nD) : (⟨k0_dev4 c, k0_dev4_lt c⟩ : Dev nD) = shl c ⟨3, by decide⟩ := Fin.ext ((k0_dev4_eq c).trans (by show _ = (c.val + 3 + 1) % 8; rw [Nat.add_assoc]))
theorem devB5 (c : Dev nD) : (⟨k0_dev5 c, k0_dev5_lt c⟩ : Dev nD) = shl c ⟨4, by decide⟩ := Fin.ext ((k0_dev5_eq c).trans (by show _ = (c.val + 4 + 1) % 8; rw [Nat.add_assoc]))
theorem devB6 (c : Dev nD) : (⟨k0_dev6 c, k0_dev6_lt c⟩ : Dev nD) = shl c ⟨5, by decide⟩ := Fin.ext ((k0_dev6_eq c).trans (by show _ = (c.val + 5 + 1) % 8; rw [Nat.add_assoc]))
theorem devB7 (c : Dev nD) : (⟨k0_dev7 c, k0_dev7_lt c⟩ : Dev nD) = shl c ⟨6, by decide⟩ := Fin.ext ((k0_dev7_eq c).trans (by show _ = (c.val + 6 + 1) % 8; rw [Nat.add_assoc]))
theorem devB8 (c : Dev nD) : (⟨k0_dev8 c, k0_dev8_lt c⟩ : Dev nD) = shl c ⟨0, by decide⟩ := Fin.ext ((k0_dev8_eq c).trans (by show _ = (c.val + 0 + 1) % 8; rw [Nat.add_assoc]))
theorem devB9 (c : Dev nD) : (⟨k0_dev9 c, k0_dev9_lt c⟩ : Dev nD) = shl c ⟨0, by decide⟩ := Fin.ext ((k0_dev9_eq c).trans (by show _ = (c.val + 0 + 1) % 8; rw [Nat.add_assoc]))
theorem devB10 (c : Dev nD) : (⟨k0_dev10 c, k0_dev10_lt c⟩ : Dev nD) = shl c ⟨1, by decide⟩ := Fin.ext ((k0_dev10_eq c).trans (by show _ = (c.val + 1 + 1) % 8; rw [Nat.add_assoc]))
theorem devB11 (c : Dev nD) : (⟨k0_dev11 c, k0_dev11_lt c⟩ : Dev nD) = shl c ⟨1, by decide⟩ := Fin.ext ((k0_dev11_eq c).trans (by show _ = (c.val + 1 + 1) % 8; rw [Nat.add_assoc]))
theorem devB12 (c : Dev nD) : (⟨k0_dev12 c, k0_dev12_lt c⟩ : Dev nD) = shl c ⟨2, by decide⟩ := Fin.ext ((k0_dev12_eq c).trans (by show _ = (c.val + 2 + 1) % 8; rw [Nat.add_assoc]))
theorem devB13 (c : Dev nD) : (⟨k0_dev13 c, k0_dev13_lt c⟩ : Dev nD) = shl c ⟨2, by decide⟩ := Fin.ext ((k0_dev13_eq c).trans (by show _ = (c.val + 2 + 1) % 8; rw [Nat.add_assoc]))
theorem devB14 (c : Dev nD) : (⟨k0_dev14 c, k0_dev14_lt c⟩ : Dev nD) = shl c ⟨3, by decide⟩ := Fin.ext ((k0_dev14_eq c).trans (by show _ = (c.val + 3 + 1) % 8; rw [Nat.add_assoc]))
theorem devB15 (c : Dev nD) : (⟨k0_dev15 c, k0_dev15_lt c⟩ : Dev nD) = shl c ⟨3, by decide⟩ := Fin.ext ((k0_dev15_eq c).trans (by show _ = (c.val + 3 + 1) % 8; rw [Nat.add_assoc]))
theorem devB16 (c : Dev nD) : (⟨k0_dev16 c, k0_dev16_lt c⟩ : Dev nD) = shl c ⟨4, by decide⟩ := Fin.ext ((k0_dev16_eq c).trans (by show _ = (c.val + 4 + 1) % 8; rw [Nat.add_assoc]))
theorem devB17 (c : Dev nD) : (⟨k0_dev17 c, k0_dev17_lt c⟩ : Dev nD) = shl c ⟨4, by decide⟩ := Fin.ext ((k0_dev17_eq c).trans (by show _ = (c.val + 4 + 1) % 8; rw [Nat.add_assoc]))
theorem devB18 (c : Dev nD) : (⟨k0_dev18 c, k0_dev18_lt c⟩ : Dev nD) = shl c ⟨5, by decide⟩ := Fin.ext ((k0_dev18_eq c).trans (by show _ = (c.val + 5 + 1) % 8; rw [Nat.add_assoc]))
theorem devB19 (c : Dev nD) : (⟨k0_dev19 c, k0_dev19_lt c⟩ : Dev nD) = shl c ⟨5, by decide⟩ := Fin.ext ((k0_dev19_eq c).trans (by show _ = (c.val + 5 + 1) % 8; rw [Nat.add_assoc]))
theorem devB20 (c : Dev nD) : (⟨k0_dev20 c, k0_dev20_lt c⟩ : Dev nD) = shl c ⟨6, by decide⟩ := Fin.ext ((k0_dev20_eq c).trans (by show _ = (c.val + 6 + 1) % 8; rw [Nat.add_assoc]))
theorem devB21 (c : Dev nD) : (⟨k0_dev21 c, k0_dev21_lt c⟩ : Dev nD) = shl c ⟨6, by decide⟩ := Fin.ext ((k0_dev21_eq c).trans (by show _ = (c.val + 6 + 1) % 8; rw [Nat.add_assoc]))

/-! ## Loads and stores -/

theorem setOn_all (b : Ref sig .tc) (S : Finset b.ty.shape.Idx) : (Memref.whole b).view.setOn S = S := Finset.map_refl

section Ops
variable {α : Type} (c : Dev nD) {Q : α → sProp (MT nD τ sig Unit (Elt F) ℕ UU ℕ)}

/-- A load of the whole of a staging buffer. -/
theorem load_x (q : PosShare TreeShare) (f : (cc0_stg0_0 : Ref sig .tc).ty.Contents (Elt F))
    {hin : ∀ a, (![0, 0] : Fin 2 → ℕ) a + S512x256.size a ≤ S512x256.size a} {hl : (Memref.whole cc0_stg0_0 : Memref sig .tc .vmem S512x256 .f32).view.LoadsAt (Rect.unit (s := S512x256) ![0, 0] S512x256.size hin).toLoadRect}
    {k : Vec F S512x256 .f32 → Prog (TpuEff nD τ sig (Elt F) Λ₀ .tc) α} :
    ((c : Thread nD τ).loc cc0_stg0_0 ↦{q} f : sProp 𝕄)
      ⊢ iprop((((c : Thread nD τ).loc cc0_stg0_0 ↦{q} f) -∗ wp frame (wpE (defs₀ (F := F)) 𝒱₀ (c : Thread nD τ) none) Set.univ (k f) Q)
          -∗ wp frame (wpE (defs₀ (F := F)) 𝒱₀ (c : Thread nD τ) none) Set.univ (.op (.load (Memref.whole cc0_stg0_0 : Memref sig .tc .vmem S512x256 .f32) (Rect.unit (s := S512x256) ![0, 0] S512x256.size hin).toLoadRect hl) k) Q) := by
  have h := wp_load (Q := Q) (defs := defs₀ (F := F)) (Γ := .empty) 𝒱₀ (c : Thread nD τ) none Set.univ (m := (Memref.whole cc0_stg0_0 : Memref sig .tc .vmem S512x256 .f32)) (r := (Rect.unit (s := S512x256) ![0, 0] S512x256.size hin).toLoadRect) (hl := hl)
    (k := k) (f := f) (q := q) (S := Finset.univ) (Finset.subset_univ _)
  have h0 : (![0, 0] : Fin 2 → ℕ) = fun _ => 0 := by funext a; fin_cases a <;> rfl
  rw [show (Memref.whole cc0_stg0_0 : Memref sig .tc .vmem S512x256 .f32).view.readAt (Elt F) (Rect.unit (s := S512x256) ![0, 0] S512x256.size hin).toLoadRect f = f from Memref.readAt_unit_zero (Elt F) cc0_stg0_0 h0 hin f] at h
  exact h

/-- A load of the whole of a staging buffer. -/
theorem load_e (q : PosShare TreeShare) (f : (cc0_stg1_0 : Ref sig .tc).ty.Contents (Elt F))
    {hin : ∀ a, (![0, 0] : Fin 2 → ℕ) a + S512x1.size a ≤ S512x1.size a} {hl : (Memref.whole cc0_stg1_0 : Memref sig .tc .vmem S512x1 .i32).view.LoadsAt (Rect.unit (s := S512x1) ![0, 0] S512x1.size hin).toLoadRect}
    {k : Vec F S512x1 .i32 → Prog (TpuEff nD τ sig (Elt F) Λ₀ .tc) α} :
    ((c : Thread nD τ).loc cc0_stg1_0 ↦{q} f : sProp 𝕄)
      ⊢ iprop((((c : Thread nD τ).loc cc0_stg1_0 ↦{q} f) -∗ wp frame (wpE (defs₀ (F := F)) 𝒱₀ (c : Thread nD τ) none) Set.univ (k f) Q)
          -∗ wp frame (wpE (defs₀ (F := F)) 𝒱₀ (c : Thread nD τ) none) Set.univ (.op (.load (Memref.whole cc0_stg1_0 : Memref sig .tc .vmem S512x1 .i32) (Rect.unit (s := S512x1) ![0, 0] S512x1.size hin).toLoadRect hl) k) Q) := by
  have h := wp_load (Q := Q) (defs := defs₀ (F := F)) (Γ := .empty) 𝒱₀ (c : Thread nD τ) none Set.univ (m := (Memref.whole cc0_stg1_0 : Memref sig .tc .vmem S512x1 .i32)) (r := (Rect.unit (s := S512x1) ![0, 0] S512x1.size hin).toLoadRect) (hl := hl)
    (k := k) (f := f) (q := q) (S := Finset.univ) (Finset.subset_univ _)
  have h0 : (![0, 0] : Fin 2 → ℕ) = fun _ => 0 := by funext a; fin_cases a <;> rfl
  rw [show (Memref.whole cc0_stg1_0 : Memref sig .tc .vmem S512x1 .i32).view.readAt (Elt F) (Rect.unit (s := S512x1) ![0, 0] S512x1.size hin).toLoadRect f = f from Memref.readAt_unit_zero (Elt F) cc0_stg1_0 h0 hin f] at h
  exact h

/-- A load of the whole of a staging buffer. -/
theorem load_w (q : PosShare TreeShare) (f : (cc0_stg2_0 : Ref sig .tc).ty.Contents (Elt F))
    {hin : ∀ a, (![0, 0, 0] : Fin 3 → ℕ) a + S2x256x512.size a ≤ S2x256x512.size a} {hl : (Memref.whole cc0_stg2_0 : Memref sig .tc .vmem S2x256x512 .f32).view.LoadsAt (Rect.unit (s := S2x256x512) ![0, 0, 0] S2x256x512.size hin).toLoadRect}
    {k : Vec F S2x256x512 .f32 → Prog (TpuEff nD τ sig (Elt F) Λ₀ .tc) α} :
    ((c : Thread nD τ).loc cc0_stg2_0 ↦{q} f : sProp 𝕄)
      ⊢ iprop((((c : Thread nD τ).loc cc0_stg2_0 ↦{q} f) -∗ wp frame (wpE (defs₀ (F := F)) 𝒱₀ (c : Thread nD τ) none) Set.univ (k f) Q)
          -∗ wp frame (wpE (defs₀ (F := F)) 𝒱₀ (c : Thread nD τ) none) Set.univ (.op (.load (Memref.whole cc0_stg2_0 : Memref sig .tc .vmem S2x256x512 .f32) (Rect.unit (s := S2x256x512) ![0, 0, 0] S2x256x512.size hin).toLoadRect hl) k) Q) := by
  have h := wp_load (Q := Q) (defs := defs₀ (F := F)) (Γ := .empty) 𝒱₀ (c : Thread nD τ) none Set.univ (m := (Memref.whole cc0_stg2_0 : Memref sig .tc .vmem S2x256x512 .f32)) (r := (Rect.unit (s := S2x256x512) ![0, 0, 0] S2x256x512.size hin).toLoadRect) (hl := hl)
    (k := k) (f := f) (q := q) (S := Finset.univ) (Finset.subset_univ _)
  have h0 : (![0, 0, 0] : Fin 3 → ℕ) = fun _ => 0 := by funext a; fin_cases a <;> rfl
  rw [show (Memref.whole cc0_stg2_0 : Memref sig .tc .vmem S2x256x512 .f32).view.readAt (Elt F) (Rect.unit (s := S2x256x512) ![0, 0, 0] S2x256x512.size hin).toLoadRect f = f from Memref.readAt_unit_zero (Elt F) cc0_stg2_0 h0 hin f] at h
  exact h

/-- A load of the whole of a staging buffer. -/
theorem load_o (q : PosShare TreeShare) (f : (cc0_stg3_0 : Ref sig .tc).ty.Contents (Elt F))
    {hin : ∀ a, (![0, 0] : Fin 2 → ℕ) a + S512x512.size a ≤ S512x512.size a} {hl : (Memref.whole cc0_stg3_0 : Memref sig .tc .vmem S512x512 .f32).view.LoadsAt (Rect.unit (s := S512x512) ![0, 0] S512x512.size hin).toLoadRect}
    {k : Vec F S512x512 .f32 → Prog (TpuEff nD τ sig (Elt F) Λ₀ .tc) α} :
    ((c : Thread nD τ).loc cc0_stg3_0 ↦{q} f : sProp 𝕄)
      ⊢ iprop((((c : Thread nD τ).loc cc0_stg3_0 ↦{q} f) -∗ wp frame (wpE (defs₀ (F := F)) 𝒱₀ (c : Thread nD τ) none) Set.univ (k f) Q)
          -∗ wp frame (wpE (defs₀ (F := F)) 𝒱₀ (c : Thread nD τ) none) Set.univ (.op (.load (Memref.whole cc0_stg3_0 : Memref sig .tc .vmem S512x512 .f32) (Rect.unit (s := S512x512) ![0, 0] S512x512.size hin).toLoadRect hl) k) Q) := by
  have h := wp_load (Q := Q) (defs := defs₀ (F := F)) (Γ := .empty) 𝒱₀ (c : Thread nD τ) none Set.univ (m := (Memref.whole cc0_stg3_0 : Memref sig .tc .vmem S512x512 .f32)) (r := (Rect.unit (s := S512x512) ![0, 0] S512x512.size hin).toLoadRect) (hl := hl)
    (k := k) (f := f) (q := q) (S := Finset.univ) (Finset.subset_univ _)
  have h0 : (![0, 0] : Fin 2 → ℕ) = fun _ => 0 := by funext a; fin_cases a <;> rfl
  rw [show (Memref.whole cc0_stg3_0 : Memref sig .tc .vmem S512x512 .f32).view.readAt (Elt F) (Rect.unit (s := S512x512) ![0, 0] S512x512.size hin).toLoadRect f = f from Memref.readAt_unit_zero (Elt F) cc0_stg3_0 h0 hin f] at h
  exact h

/-- The store of the whole of the result's staging buffer. -/
theorem store_o (f w : (cc0_stg3_0 : Ref sig .tc).ty.Contents (Elt F))
    {hin : ∀ a, (![0, 0] : Fin 2 → ℕ) a + S512x512.size a ≤ S512x512.size a} {hl : ((Memref.whole cc0_stg3_0 : Memref sig .tc .vmem S512x512 .f32).access (Rect.unit (s := S512x512) ![0, 0] S512x512.size hin)).Stores Finset.univ}
    {hp : Finset.univ = Finset.univ ∨ ∀ a, (Rect.unit (s := S512x512) ![0, 0] S512x512.size hin).stride a = 1}
    {k : PUnit → Prog (TpuEff nD τ sig (Elt F) Λ₀ .tc) α} :
    ((c : Thread nD τ).loc cc0_stg3_0 ↦{fullShare} f : sProp 𝕄)
      ⊢ iprop((((c : Thread nD τ).loc cc0_stg3_0 ↦{fullShare} w) -∗ wp frame (wpE (defs₀ (F := F)) 𝒱₀ (c : Thread nD τ) none) Set.univ (k ⟨⟩) Q)
          -∗ wp frame (wpE (defs₀ (F := F)) 𝒱₀ (c : Thread nD τ) none) Set.univ (.op (.store (Memref.whole cc0_stg3_0 : Memref sig .tc .vmem S512x512 .f32) (Rect.unit (s := S512x512) ![0, 0] S512x512.size hin) w Finset.univ hl hp) k) Q) := by
  have h := wp_store (Q := Q) (defs := defs₀ (F := F)) (Γ := .empty) 𝒱₀ (c : Thread nD τ) none Set.univ (m := (Memref.whole cc0_stg3_0 : Memref sig .tc .vmem S512x512 .f32)) (r := Rect.unit (s := S512x512) ![0, 0] S512x512.size hin) (Mk := Finset.univ) (w := w)
    (hx := hl) (hm := hp) (k := k) (f := f) (S := Finset.univ) (Finset.subset_univ _)
  have h0 : (![0, 0] : Fin 2 → ℕ) = fun _ => 0 := by funext a; fin_cases a <;> rfl
  rw [show ((Memref.whole cc0_stg3_0 : Memref sig .tc .vmem S512x512 .f32).access (Rect.unit (s := S512x512) ![0, 0] S512x512.size hin)).write (Elt F) f w Finset.univ = w from Memref.write_access_unit_zero_univ (Elt F) cc0_stg3_0 h0 hin f w] at h
  exact h

/-- A load of slot `p` of the gathered weights. -/
theorem load_W (p : Dev nD) (q : PosShare TreeShare) {o : Fin 4 → ℕ} (ho : o = ![p.val, 0, 0, 0])
    {hin : ∀ a, o a + S1x2x256x512.size a ≤ S8x2x256x512.size a} {hl : wM.view.LoadsAt (Rect.unit (s := S8x2x256x512) o S1x2x256x512.size hin).toLoadRect}
    {k : Vec F S1x2x256x512 .i8 → Prog (TpuEff nD τ sig (Elt F) Λ₀ .tc) α} :
    ptW c p q (WG m)
      ⊢ iprop((ptW c p q (WG m) -∗ wp frame (wpE (defs₀ (F := F)) 𝒱₀ (c : Thread nD τ) none) Set.univ (k (qw m p)) Q)
          -∗ wp frame (wpE (defs₀ (F := F)) 𝒱₀ (c : Thread nD τ) none) Set.univ (.op (.load wM (Rect.unit (s := S8x2x256x512) o S1x2x256x512.size hin).toLoadRect hl) k) Q) := by
  subst ho
  have h := wp_load (Q := Q) (defs := defs₀ (F := F)) (Γ := .empty) 𝒱₀ (c : Thread nD τ) none Set.univ (m := wM) (r := (rW p).toLoadRect) (hl := hl)
    (k := k) (f := WG m) (q := q) (S := (slotW p).view.set) (by rw [setW]; exact (setOn_all _ _).subset)
  rw [View.readAt_rect, show (wM.view.slice (rW p)).read (Elt F) (WG m) = qw m p from readW m p] at h
  exact h

/-- A load of slot `p` of the gathered weights, whatever it holds. -/
theorem load_W_any (p : Dev nD) (q : PosShare TreeShare) (f : (cc0_scratch0 : Ref sig .tc).ty.Contents (Elt F)) {o : Fin 4 → ℕ} (ho : o = ![p.val, 0, 0, 0])
    {hin : ∀ a, o a + S1x2x256x512.size a ≤ S8x2x256x512.size a} {hl : wM.view.LoadsAt (Rect.unit (s := S8x2x256x512) o S1x2x256x512.size hin).toLoadRect}
    {k : Vec F S1x2x256x512 .i8 → Prog (TpuEff nD τ sig (Elt F) Λ₀ .tc) α} {P : Prog (TpuEff nD τ sig (Elt F) Λ₀ .tc) α} (hk : ∀ v, k v = P) :
    ptW c p q f
      ⊢ iprop((ptW c p q f -∗ wp frame (wpE (defs₀ (F := F)) 𝒱₀ (c : Thread nD τ) none) Set.univ P Q)
          -∗ wp frame (wpE (defs₀ (F := F)) 𝒱₀ (c : Thread nD τ) none) Set.univ (.op (.load wM (Rect.unit (s := S8x2x256x512) o S1x2x256x512.size hin).toLoadRect hl) k) Q) := by
  subst ho
  have h := wp_load (Q := Q) (defs := defs₀ (F := F)) (Γ := .empty) 𝒱₀ (c : Thread nD τ) none Set.univ (m := wM) (r := (rW p).toLoadRect) (hl := hl)
    (k := k) (f := f) (q := q) (S := (slotW p).view.set) (by rw [setW]; exact (setOn_all _ _).subset)
  rw [hk] at h
  exact h
theorem load_S_any (p : Dev nD) (q : PosShare TreeShare) (f : (cc0_scratch1 : Ref sig .tc).ty.Contents (Elt F)) {o : Fin 3 → ℕ} (ho : o = ![p.val, 0, 0])
    {hin : ∀ a, o a + S1x1x32.size a ≤ S8x1x32.size a} {hl : sM.view.LoadsAt (Rect.unit (s := S8x1x32) o S1x1x32.size hin).toLoadRect}
    {k : Vec F S1x1x32 .f32 → Prog (TpuEff nD τ sig (Elt F) Λ₀ .tc) α} {P : Prog (TpuEff nD τ sig (Elt F) Λ₀ .tc) α} (hk : ∀ v, k v = P) :
    ptS c p q f
      ⊢ iprop((ptS c p q f -∗ wp frame (wpE (defs₀ (F := F)) 𝒱₀ (c : Thread nD τ) none) Set.univ P Q)
          -∗ wp frame (wpE (defs₀ (F := F)) 𝒱₀ (c : Thread nD τ) none) Set.univ (.op (.load sM (Rect.unit (s := S8x1x32) o S1x1x32.size hin).toLoadRect hl) k) Q) := by
  subst ho
  have h := wp_load (Q := Q) (defs := defs₀ (F := F)) (Γ := .empty) 𝒱₀ (c : Thread nD τ) none Set.univ (m := sM) (r := (rS p).toLoadRect) (hl := hl)
    (k := k) (f := f) (q := q) (S := (slotS p).view.set) (by rw [setS]; exact (setOn_all _ _).subset)
  rw [hk] at h
  exact h

/-- A load of the scale in slot `p` of the side buffer. -/
theorem load_D (p : Dev nD) (q : PosShare TreeShare) {o : Fin 3 → ℕ} (ho : o = ![p.val, 0, 16])
    {hin : ∀ a, o a + S1x1x1.size a ≤ S8x1x32.size a} {hl : sM.view.LoadsAt (Rect.unit (s := S8x1x32) o S1x1x1.size hin).toLoadRect}
    {k : Vec F S1x1x1 .f32 → Prog (TpuEff nD τ sig (Elt F) Λ₀ .tc) α} :
    ptS c p q (SG m)
      ⊢ iprop((ptS c p q (SG m) -∗ wp frame (wpE (defs₀ (F := F)) 𝒱₀ (c : Thread nD τ) none) Set.univ (k (dq m p)) Q)
          -∗ wp frame (wpE (defs₀ (F := F)) 𝒱₀ (c : Thread nD τ) none) Set.univ (.op (.load sM (Rect.unit (s := S8x1x32) o S1x1x1.size hin).toLoadRect hl) k) Q) := by
  subst ho
  have hsub : (rD p).set ⊆ (rS p).set := fun i hi => (LoadRect.mem_set _).mpr fun a => by
    obtain ⟨j, hj, e⟩ := (LoadRect.mem_set _).mp hi a
    fin_cases a
    · exact ⟨j, hj, e⟩
    · exact ⟨j, hj, e⟩
    · have hj' : j < 1 := hj
      have e' : (i 2).val = 16 + 1 * j := e
      exact ⟨16 + j, by show 16 + j < 32; omega, by show (i 2).val = 0 + 1 * (16 + j); omega⟩
  have h := wp_load (Q := Q) (defs := defs₀ (F := F)) (Γ := .empty) 𝒱₀ (c : Thread nD τ) none Set.univ (m := sM) (r := (rD p).toLoadRect) (hl := hl)
    (k := k) (f := SG m) (q := q) (S := (slotS p).view.set) (by rw [setS]; exact (setOn_all _ _).subset.trans hsub)
  rw [View.readAt_rect, show (sM.view.slice (rD p)).read (Elt F) (SG m) = dq m p from readD m p] at h
  exact h

/-- The load of every device's counts. -/
theorem load_N (q : PosShare TreeShare) {hl : sM.view.LoadsAt rN.toLoadRect}
    {k : Vec F S8x1x16 .f32 → Prog (TpuEff nD τ sig (Elt F) Λ₀ .tc) α} :
    ((c : Thread nD τ).loc cc0_scratch1 ↦{q} SG m : sProp 𝕄)
      ⊢ iprop((((c : Thread nD τ).loc cc0_scratch1 ↦{q} SG m) -∗ wp frame (wpE (defs₀ (F := F)) 𝒱₀ (c : Thread nD τ) none) Set.univ (k (cnts m)) Q)
          -∗ wp frame (wpE (defs₀ (F := F)) 𝒱₀ (c : Thread nD τ) none) Set.univ (.op (.load sM rN.toLoadRect hl) k) Q) := by
  have h := wp_load (Q := Q) (defs := defs₀ (F := F)) (Γ := .empty) 𝒱₀ (c : Thread nD τ) none Set.univ (m := sM) (r := rN.toLoadRect) (hl := hl)
    (k := k) (f := SG m) (q := q) (S := Finset.univ) (Finset.subset_univ _)
  rw [View.readAt_rect, show (sM.view.slice rN).read (Elt F) (SG m) = cnts m from readN m] at h
  exact h

/-- The store of the quantised weights in the own slot; -/
theorem store_W (f : (cc0_scratch0 : Ref sig .tc).ty.Contents (Elt F)) {o : Fin 4 → ℕ} (ho : o = ![c.val, 0, 0, 0])
    {hin : ∀ a, o a + S1x2x256x512.size a ≤ S8x2x256x512.size a} {hl : (wM.access (Rect.unit (s := S8x2x256x512) o S1x2x256x512.size hin)).Stores Finset.univ} {hp}
    {k : PUnit → Prog (TpuEff nD τ sig (Elt F) Λ₀ .tc) α} :
    ptW c c fullShare f
      ⊢ iprop((ptW c c fullShare (WG m) -∗ wp frame (wpE (defs₀ (F := F)) 𝒱₀ (c : Thread nD τ) none) Set.univ (k ⟨⟩) Q)
          -∗ wp frame (wpE (defs₀ (F := F)) 𝒱₀ (c : Thread nD τ) none) Set.univ (.op (.store wM (Rect.unit (s := S8x2x256x512) o S1x2x256x512.size hin) (qw m c) Finset.univ hl hp) k) Q) := by
  subst ho
  have h := wp_store (Q := Q) (defs := defs₀ (F := F)) (Γ := .empty) 𝒱₀ (c : Thread nD τ) none Set.univ (m := wM) (r := rW c) (Mk := Finset.univ) (w := qw m c)
    (k := k) (f := f) (S := (slotW c).view.set) (hx := hl) (hm := hp) (by rw [setW]; exact (View.set_slice_whole _ _).subset)
  have e := stored_W m c c fullShare f
  unfold ptW at e ⊢
  rw [e] at h
  exact h
/-- and of the counts and scale. -/
theorem store_S (f : (cc0_scratch1 : Ref sig .tc).ty.Contents (Elt F)) {o : Fin 3 → ℕ} (ho : o = ![c.val, 0, 0])
    {hin : ∀ a, o a + S1x1x32.size a ≤ S8x1x32.size a} {hl : (sM.access (Rect.unit (s := S8x1x32) o S1x1x32.size hin)).Stores Finset.univ} {hp}
    {k : PUnit → Prog (TpuEff nD τ sig (Elt F) Λ₀ .tc) α} :
    ptS c c fullShare f
      ⊢ iprop((ptS c c fullShare (SG m) -∗ wp frame (wpE (defs₀ (F := F)) 𝒱₀ (c : Thread nD τ) none) Set.univ (k ⟨⟩) Q)
          -∗ wp frame (wpE (defs₀ (F := F)) 𝒱₀ (c : Thread nD τ) none) Set.univ (.op (.store sM (Rect.unit (s := S8x1x32) o S1x1x32.size hin) (side m c) Finset.univ hl hp) k) Q) := by
  subst ho
  have h := wp_store (Q := Q) (defs := defs₀ (F := F)) (Γ := .empty) 𝒱₀ (c : Thread nD τ) none Set.univ (m := sM) (r := rS c) (Mk := Finset.univ) (w := side m c)
    (k := k) (f := f) (S := (slotS c).view.set) (hx := hl) (hm := hp) (by rw [setS]; exact (View.set_slice_whole _ _).subset)
  have e := stored_S m c c fullShare f
  unfold ptS at e ⊢
  rw [e] at h
  exact h

end Ops

end Cert.Moe

end
-- ==== Proof.States.lean ====
/-
# What a device holds between two operations of the body

Three phases: the transfers being started, the landings being awaited, the transfers being awaited. Each state says how far
the weights' and the side buffer's transfers are (`a` and `b`), and each lemma moves one of them by one.
-/
module

public import proofs.«01_k».proof.Proof.Ops

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-- The seven places, by number. -/
abbrev at0 : Fin 7 := ⟨0, by decide⟩
abbrev at1 : Fin 7 := ⟨1, by decide⟩
abbrev at2 : Fin 7 := ⟨2, by decide⟩
abbrev at3 : Fin 7 := ⟨3, by decide⟩
abbrev at4 : Fin 7 := ⟨4, by decide⟩
abbrev at5 : Fin 7 := ⟨5, by decide⟩
abbrev at6 : Fin 7 := ⟨6, by decide⟩

/-- The signals sent below `n`. -/
def SigSt (c : Dev nD) (n : ℕ) : sProp 𝕄 :=
  iprop((∃ W, owes (c : Thread nD τ) (oB c n + (oW c 0 + oC c 0)) W) ∗ bigSep (from' n) (toSignal c))

/-- The weights' transfers started below `a`, the side buffer's below `b`. -/
def SendSt (c : Dev nD) (a b : ℕ) : sProp 𝕄 :=
  iprop((∃ W, owes (c : Thread nD τ) (oW c a + oC c b) W)
    ∗ (bigSep (from' a) (toSendW m c) ∗ bigSep (upto a) (fun j => cred (tallyAt (sndW c j) () Nw)))
    ∗ (bigSep (from' b) (toSendC m c) ∗ bigSep (upto b) (fun j => cred (tallyAt (sndC c j) () Nc))))

/-- Cell `(s, j)` before its wait, with the credit for it; -/
def due (c : Dev nD) (s : Fin 4) (N : ℕ) (j : Fin 7) : sProp 𝕄 :=
  iprop(atPos ER (kcell (c, some (s, j))) 0 ∅ 0 ∗ cred (tallyAt (kcell (c, some (s, j))) () N))
/-- and the four cells after theirs, with what the wait brought. -/
def gotW (c : Dev nD) (j : Fin 7) : sProp 𝕄 := iprop(atPos ER (kcell (c, some (1, j))) 1 ∅ 0 ∗ ptW c (shr c j) fullShare (WG m))
def gotC (c : Dev nD) (j : Fin 7) : sProp 𝕄 := iprop(atPos ER (kcell (c, some (3, j))) 1 ∅ 0 ∗ ptS c (shr c j) fullShare (SG m))
def backW (c : Dev nD) (j : Fin 7) : sProp 𝕄 := iprop(atPos ER (kcell (c, some (0, j))) 1 ∅ 0 ∗ ptW c c (shareTok fullShare 7 j) (WG m))
def backC (c : Dev nD) (j : Fin 7) : sProp 𝕄 := iprop(atPos ER (kcell (c, some (2, j))) 1 ∅ 0 ∗ ptS c c (shareTok fullShare 7 j) (SG m))

/-- The weights' landings awaited below `a`, the side buffer's below `b`. -/
def RecvSt (c : Dev nD) (a b : ℕ) : sProp 𝕄 :=
  iprop((∃ W, owes (c : Thread nD τ) 0 W) ∗ (bigSep (from' a) (due c 1 Nw) ∗ bigSep (upto a) (gotW m c)) ∗ (bigSep (from' b) (due c 3 Nc) ∗ bigSep (upto b) (gotC m c)))
/-- The weights' own transfers awaited below `a`, the side buffer's below `b`. -/
def SentSt (c : Dev nD) (a b : ℕ) : sProp 𝕄 :=
  iprop((∃ W, owes (c : Thread nD τ) 0 W) ∗ (bigSep (from' a) (due c 0 Nw) ∗ bigSep (upto a) (backW m c)) ∗ (bigSep (from' b) (due c 2 Nc) ∗ bigSep (upto b) (backC m c)))

section Moves
variable (K : Dev nD × Ci → ℕ) (c : Dev nD) {α : Type} {Q : α → sProp (MT nD τ sig Unit (Elt F) ℕ UU ℕ)}

theorem sig_move (n : Fin 7) {dv : Dev nD} (hdv : dv = shl c n) {k : PUnit → Prog (TpuEff nD τ sig (Elt F) Λ₀ .tc) α} :
    iprop(records m K ∗ SigSt c n.val)
      ⊢ iprop((SigSt c (n.val + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (dv : Thread nD τ) barS (1#32 : BitVec 32).toInt) k) Q) := by
  unfold SigSt
  iintro ⟨#HR, ⟨%W, HO⟩, Hs⟩ Hk
  have h := sig_step (Q := Q) (k := k) m K c n (oW c 0 + oC c 0) W hdv
  iapply h $$ [HO Hs]
  · isplitr; · iexact HR
    isplitl [HO]; · iexact HO
    iexact Hs
  iintro ⟨HO, Hs⟩
  iapply Hk
  isplitl [HO]; · iexists W; iexact HO
  iexact Hs

theorem sendW_move (n : Fin 7) (b : ℕ) {dv : Dev nD} (hdv : dv = shl c n)
    {src : Memref sig .tc .vmem S2x256x512 .i8} (hs : src = slotW c) {dst : Memref sig .tc .vmem S2x256x512 .i8} (hd : dst = slotW c)
    {ss rs : SemLoc sig} (hss : ss = osem (0, n)) (hrs : rs = osem (1, n))
    {hsc : (dst : Memref sig (Dev.tc dv : Thread nD τ).2.kind .vmem S2x256x512 .i8).view.ref.isScScratch = false}
    {hsrc : src.view.WordExact} {hdst : dst.view.WordExact}
    {hsem : DmaTarget.Typed .vmem rs (.remote (Dev.tc dv : Thread nD τ) (dst : Memref sig (Dev.tc dv : Thread nD τ).2.kind .vmem S2x256x512 .i8) ss hsc)}
    {k : PUnit → Prog (TpuEff nD τ sig (Elt F) Λ₀ .tc) α} :
    iprop(records m K ∗ SendSt m c n.val b)
      ⊢ iprop((SendSt m c (n.val + 1) b -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc dv : Thread nD τ) dst ss hsc) rs hsrc hdst hsem) k) Q) := by
  unfold SendSt
  iintro ⟨#HR, ⟨%W, HO⟩, ⟨Hl, Hd⟩, Ho⟩ Hk
  have h := sendW_step (Q := Q) (k := k) m K c n b W hdv hs hd hss hrs (hsc := hsc) (hsrc := hsrc) (hdst := hdst) (hsem := hsem)
  iapply h $$ [HO Hl Hd]
  · isplitr; · iexact HR
    isplitl [HO]; · iexact HO
    isplitl [Hl]; · iexact Hl
    iexact Hd
  iintro ⟨HO, Hl, Hd⟩
  iapply Hk
  isplitl [HO]; · iexists W; iexact HO
  isplitl [Hl Hd]
  · isplitl [Hl]; · iexact Hl
    iexact Hd
  iexact Ho

theorem sendC_move (n : Fin 7) (b : ℕ) {dv : Dev nD} (hdv : dv = shl c n)
    {src : Memref sig .tc .vmem S1x32 .f32} (hs : src = slotS c) {dst : Memref sig .tc .vmem S1x32 .f32} (hd : dst = slotS c)
    {ss rs : SemLoc sig} (hss : ss = osem (2, n)) (hrs : rs = osem (3, n))
    {hsc : (dst : Memref sig (Dev.tc dv : Thread nD τ).2.kind .vmem S1x32 .f32).view.ref.isScScratch = false}
    {hsrc : src.view.WordExact} {hdst : dst.view.WordExact}
    {hsem : DmaTarget.Typed .vmem rs (.remote (Dev.tc dv : Thread nD τ) (dst : Memref sig (Dev.tc dv : Thread nD τ).2.kind .vmem S1x32 .f32) ss hsc)}
    {k : PUnit → Prog (TpuEff nD τ sig (Elt F) Λ₀ .tc) α} :
    iprop(records m K ∗ SendSt m c b n.val)
      ⊢ iprop((SendSt m c b (n.val + 1) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma src (.remote (Dev.tc dv : Thread nD τ) dst ss hsc) rs hsrc hdst hsem) k) Q) := by
  unfold SendSt
  iintro ⟨#HR, ⟨%W, HO⟩, Ho, ⟨Hl, Hd⟩⟩ Hk
  have h := sendC_step (Q := Q) (k := k) m K c n b W hdv hs hd hss hrs (hsc := hsc) (hsrc := hsrc) (hdst := hdst) (hsem := hsem)
  iapply h $$ [HO Hl Hd]
  · isplitr; · iexact HR
    isplitl [HO]; · iexact HO
    isplitl [Hl]; · iexact Hl
    iexact Hd
  iintro ⟨HO, Hl, Hd⟩
  iapply Hk
  isplitl [HO]; · iexists W; iexact HO
  isplitl [Ho]; · iexact Ho
  isplitl [Hl]; · iexact Hl
  iexact Hd

theorem recvW_move (n : Fin 7) (b : ℕ) {sm : DmaSem sig} (hsm : (SemLoc.dma sm : SemLoc sig) = osem (1, n))
    {src dst : Memref sig .tc .vmem S2x256x512 .i8} {h1 : src.view.WordExact} {h2 : dst.view.WordExact}
    {k : PUnit → Prog (TpuEff nD τ sig (Elt F) Λ₀ .tc) α} :
    iprop(records m K ∗ RecvSt m c n.val b)
      ⊢ iprop((RecvSt m c (n.val + 1) b -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h1 h2) k) Q) := by
  unfold RecvSt
  iintro ⟨#HR, ⟨%W, HO⟩, ⟨Hl, Hd⟩, Ho⟩ Hk
  have h := recvW_step (Q := Q) (k := k) m K c n W hsm (src := src) (dst := dst) (h1 := h1) (h2 := h2)
  iapply h $$ [HO Hl Hd]
  · isplitr; · iexact HR
    isplitl [HO]; · iexact HO
    isplitl [Hl]; · unfold due; iexact Hl
    unfold gotW; iexact Hd
  iintro ⟨HO, Hl, Hd⟩
  iapply Hk
  isplitl [HO]; · iexists _; iexact HO
  isplitl [Hl Hd]
  · isplitl [Hl]; · unfold due; iexact Hl
    unfold gotW; iexact Hd
  iexact Ho

theorem recvC_move (n : Fin 7) (b : ℕ) {sm : DmaSem sig} (hsm : (SemLoc.dma sm : SemLoc sig) = osem (3, n))
    {src dst : Memref sig .tc .vmem S1x32 .f32} {h1 : src.view.WordExact} {h2 : dst.view.WordExact}
    {k : PUnit → Prog (TpuEff nD τ sig (Elt F) Λ₀ .tc) α} :
    iprop(records m K ∗ RecvSt m c b n.val)
      ⊢ iprop((RecvSt m c b (n.val + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h1 h2) k) Q) := by
  unfold RecvSt
  iintro ⟨#HR, ⟨%W, HO⟩, Ho, ⟨Hl, Hd⟩⟩ Hk
  have h := recvC_step (Q := Q) (k := k) m K c n W hsm (src := src) (dst := dst) (h1 := h1) (h2 := h2)
  iapply h $$ [HO Hl Hd]
  · isplitr; · iexact HR
    isplitl [HO]; · iexact HO
    isplitl [Hl]; · unfold due; iexact Hl
    unfold gotC; iexact Hd
  iintro ⟨HO, Hl, Hd⟩
  iapply Hk
  isplitl [HO]; · iexists _; iexact HO
  isplitl [Ho]; · iexact Ho
  isplitl [Hl]; · unfold due; iexact Hl
  unfold gotC; iexact Hd

theorem sentW_move (n : Fin 7) (b : ℕ) {sm : DmaSem sig} (hsm : (SemLoc.dma sm : SemLoc sig) = osem (0, n))
    {src dst : Memref sig .tc .vmem S2x256x512 .i8} {h1 : src.view.WordExact} {h2 : dst.view.WordExact}
    {k : PUnit → Prog (TpuEff nD τ sig (Elt F) Λ₀ .tc) α} :
    iprop(records m K ∗ SentSt m c n.val b)
      ⊢ iprop((SentSt m c (n.val + 1) b -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h1 h2) k) Q) := by
  unfold SentSt
  iintro ⟨#HR, ⟨%W, HO⟩, ⟨Hl, Hd⟩, Ho⟩ Hk
  have h := sentW_step (Q := Q) (k := k) m K c n W hsm (src := src) (dst := dst) (h1 := h1) (h2 := h2)
  iapply h $$ [HO Hl Hd]
  · isplitr; · iexact HR
    isplitl [HO]; · iexact HO
    isplitl [Hl]; · unfold due; iexact Hl
    unfold backW; iexact Hd
  iintro ⟨HO, Hl, Hd⟩
  iapply Hk
  isplitl [HO]; · iexists _; iexact HO
  isplitl [Hl Hd]
  · isplitl [Hl]; · unfold due; iexact Hl
    unfold backW; iexact Hd
  iexact Ho

theorem sentC_move (n : Fin 7) (b : ℕ) {sm : DmaSem sig} (hsm : (SemLoc.dma sm : SemLoc sig) = osem (2, n))
    {src dst : Memref sig .tc .vmem S1x32 .f32} {h1 : src.view.WordExact} {h2 : dst.view.WordExact}
    {k : PUnit → Prog (TpuEff nD τ sig (Elt F) Λ₀ .tc) α} :
    iprop(records m K ∗ SentSt m c b n.val)
      ⊢ iprop((SentSt m c b (n.val + 1) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sm src dst h1 h2) k) Q) := by
  unfold SentSt
  iintro ⟨#HR, ⟨%W, HO⟩, Ho, ⟨Hl, Hd⟩⟩ Hk
  have h := sentC_step (Q := Q) (k := k) m K c n W hsm (src := src) (dst := dst) (h1 := h1) (h2 := h2)
  iapply h $$ [HO Hl Hd]
  · isplitr; · iexact HR
    isplitl [HO]; · iexact HO
    isplitl [Hl]; · unfold due; iexact Hl
    unfold backC; iexact Hd
  iintro ⟨HO, Hl, Hd⟩
  iapply Hk
  isplitl [HO]; · iexists _; iexact HO
  isplitl [Ho]; · iexact Ho
  isplitl [Hl]; · unfold due; iexact Hl
  unfold backC; iexact Hd

/-- The load of the weights landed last. -/
theorem loadW_move (n : Fin 7) (b : ℕ) {o : Fin 4 → ℕ} (ho : o = ![(shr c n).val, 0, 0, 0])
    {hin : ∀ a, o a + S1x2x256x512.size a ≤ S8x2x256x512.size a} {hl : wM.view.LoadsAt (Rect.unit (s := S8x2x256x512) o S1x2x256x512.size hin).toLoadRect}
    {k : Vec F S1x2x256x512 .i8 → Prog (TpuEff nD τ sig (Elt F) Λ₀ .tc) α} :
    RecvSt m c (n.val + 1) b
      ⊢ iprop((RecvSt m c (n.val + 1) b -∗ wp frame (wpE (defs₀ (F := F)) 𝒱₀ (c : Thread nD τ) none) Set.univ (k (qw m (shr c n))) Q)
          -∗ wp frame (wpE (defs₀ (F := F)) 𝒱₀ (c : Thread nD τ) none) Set.univ (.op (.load wM (Rect.unit (s := S8x2x256x512) o S1x2x256x512.size hin).toLoadRect hl) k) Q) := by
  unfold RecvSt
  rw [done_push n (gotW m c)]
  unfold gotW
  iintro ⟨HO, ⟨Hl, ⟨Hat, Hp⟩, Hd⟩, Ho⟩ Hk
  have h := load_W (Q := Q) (k := k) m c (shr c n) fullShare ho (hin := hin) (hl := hl)
  iapply h $$ Hp
  iintro Hp
  iapply Hk
  isplitl [HO]; · iexact HO
  isplitl [Hl Hat Hp Hd]
  · isplitl [Hl]; · iexact Hl
    isplitl [Hat Hp]
    · isplitl [Hat]; · iexact Hat
      iexact Hp
    iexact Hd
  iexact Ho

/-- The load of the scale landed last. -/
theorem loadD_move (n : Fin 7) (b : ℕ) {o : Fin 3 → ℕ} (ho : o = ![(shr c n).val, 0, 16])
    {hin : ∀ a, o a + S1x1x1.size a ≤ S8x1x32.size a} {hl : sM.view.LoadsAt (Rect.unit (s := S8x1x32) o S1x1x1.size hin).toLoadRect}
    {k : Vec F S1x1x1 .f32 → Prog (TpuEff nD τ sig (Elt F) Λ₀ .tc) α} :
    RecvSt m c b (n.val + 1)
      ⊢ iprop((RecvSt m c b (n.val + 1) -∗ wp frame (wpE (defs₀ (F := F)) 𝒱₀ (c : Thread nD τ) none) Set.univ (k (dq m (shr c n))) Q)
          -∗ wp frame (wpE (defs₀ (F := F)) 𝒱₀ (c : Thread nD τ) none) Set.univ (.op (.load sM (Rect.unit (s := S8x1x32) o S1x1x1.size hin).toLoadRect hl) k) Q) := by
  unfold RecvSt
  rw [done_push n (gotC m c)]
  unfold gotC
  iintro ⟨HO, Ho, Hl, ⟨Hat, Hp⟩, Hd⟩ Hk
  have h := load_D (Q := Q) (k := k) m c (shr c n) fullShare ho (hin := hin) (hl := hl)
  iapply h $$ Hp
  iintro Hp
  iapply Hk
  isplitl [HO]; · iexact HO
  isplitl [Ho]; · iexact Ho
  isplitl [Hl]; · iexact Hl
  isplitl [Hat Hp]
  · isplitl [Hat]; · iexact Hat
    iexact Hp
  iexact Hd

end Moves

end Cert.Moe

end
-- ==== Proof.Families.lean ====
/-
What a device holds of the seven cells of each kind, and how the eight slots of a gathering buffer are taken apart and put together.
-/
module

public import proofs.«01_k».proof.Proof.States

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-- Device `c`'s position at round `r` of its seven cells of kind `s`, -/
def posn (c : Dev nD) (s : Fin 4) (r : ℕ) : sProp 𝕄 := bigSep Finset.univ (fun j : Fin 7 => atPos ER (kcell (c, some (s, j))) r ∅ 0)
/-- a credit on each of them, -/
def crds (c : Dev nD) (s : Fin 4) (N : ℕ) : sProp 𝕄 := bigSep Finset.univ (fun j : Fin 7 => cred (tallyAt (kcell (c, some (s, j))) () N))
/-- their counters at zero, -/
def zeros (c : Dev nD) (s : Fin 4) : sProp 𝕄 := bigSep Finset.univ (fun j : Fin 7 => semVal (kcell (c, some (s, j))) 0)
/-- and the tokens of the duties device `c` performs. -/
def tokB (c : Dev nD) : sProp 𝕄 := bigSep Finset.univ (fun j : Fin 7 => dutyTok ER (barC (shl c j)) 0 j.rev)
def tokSW (c : Dev nD) : sProp 𝕄 := bigSep Finset.univ (fun j : Fin 7 => dutyTok ER (sndW c j) 0 0)
def tokRW (c : Dev nD) : sProp 𝕄 := bigSep Finset.univ (fun j : Fin 7 => dutyTok ER (rcvW (shl c j) j) 0 0)
def tokSC (c : Dev nD) : sProp 𝕄 := bigSep Finset.univ (fun j : Fin 7 => dutyTok ER (sndC c j) 0 0)
def tokRC (c : Dev nD) : sProp 𝕄 := bigSep Finset.univ (fun j : Fin 7 => dutyTok ER (rcvC (shl c j) j) 0 0)

/-- The own slot cut into a rest and seven shares, -/
theorem cutW (c : Dev nD) (f : (cc0_scratch0 : Ref sig .tc).ty.Contents (Elt F)) :
    (ptW c c fullShare f : sProp 𝕄) ⊣⊢ iprop(ptW c c (shareDrop fullShare 7) f ∗ bigSep Finset.univ (fun j : Fin 7 => ptW c c (shareTok fullShare 7 j) f)) := by
  unfold ptW; exact Transfers.pointsTo_toks fullShare 7
/-- and any slot of the side buffer. -/
theorem cutS (c p : Dev nD) (f : (cc0_scratch1 : Ref sig .tc).ty.Contents (Elt F)) :
    (ptS c p fullShare f : sProp 𝕄) ⊣⊢ iprop(ptS c p (shareDrop fullShare 7) f ∗ bigSep Finset.univ (fun j : Fin 7 => ptS c p (shareTok fullShare 7 j) f)) := by
  unfold ptS; exact Transfers.pointsTo_toks fullShare 7

/-- The peers' slots with the tokens are what the signals hand out. -/
theorem sig_start (c : Dev nD) (f : (cc0_scratch0 : Ref sig .tc).ty.Contents (Elt F)) (g : (cc0_scratch1 : Ref sig .tc).ty.Contents (Elt F)) :
    iprop(tokB c ∗ bigSep Finset.univ (fun j : Fin 7 => ptW c (shl c j) fullShare f) ∗ bigSep Finset.univ (fun j : Fin 7 => ptS c (shl c j) fullShare g))
      ⊢ (bigSep (from' 0) (toSignal c) : sProp 𝕄) := by
  unfold tokB
  rw [from_zero, ← bigSep_sep', ← bigSep_sep']
  refine bigSep_mono fun j _ => ?_
  show iprop(dutyTok ER (barC (shl c j)) 0 j.rev ∗ ptW c (shl c j) fullShare f ∗ ptS c (shl c j) fullShare g) ⊢ (toSignal c j : sProp 𝕄)
  unfold toSignal slots
  iintro ⟨Ht, Hw, Hs⟩
  isplitl [Ht]; · iexact Ht
  isplitl [Hw]; · iexists f; iexact Hw
  iexists g; iexact Hs

/-- After the barrier: the peers' landing slots, the tokens and the own slots are what the transfers take. -/
theorem send_start (c : Dev nD) :
    iprop(iprop((∃ W, owes (c : Thread nD τ) (oW c 0 + oC c 0) W) ∗ atPos ER (barC c) 1 ∅ 0 ∗ bigSep Finset.univ (fun j => slots (shl c j) c))
        ∗ (tokSW c ∗ tokRW c ∗ tokSC c ∗ tokRC c ∗ ptW c c fullShare (WG m) ∗ ptS c c fullShare (SG m)))
      ⊢ (iprop(SendSt m c 0 0 ∗ (atPos ER (barC c) 1 ∅ 0 ∗ ptW c c (shareDrop fullShare 7) (WG m) ∗ ptS c c (shareDrop fullShare 7) (SG m))) : sProp 𝕄) := by
  unfold SendSt tokSW tokRW tokSC tokRC
  simp only [from_zero, upto_zero, bigSep_empty]
  iintro ⟨⟨HO, Hat, Hsl⟩, H1, H2, H3, H4, HW, HS⟩
  unfold slots
  ihave Hsl := (Entails.of_eq (bigSep_sep' (Finset.univ : Finset (Fin 7)) (fun j => iprop(∃ f, ptW (shl c j) c fullShare f)) (fun j => iprop(∃ f, ptS (shl c j) c fullShare f)))) $$ Hsl
  icases Hsl with ⟨HslW, HslS⟩
  ihave HW := (cutW c (WG m)).1 $$ HW
  icases HW with ⟨HWd, HWt⟩
  ihave HS := (cutS c c (SG m)).1 $$ HS
  icases HS with ⟨HSd, HSt⟩
  isplitl [HO H1 H2 H3 H4 HslW HslS HWt HSt]
  · isplitl [HO]; · iexact HO
    isplitl [H1 H2 HslW HWt]
    · isplitl
      · unfold toSendW
        rw [bigSep_sep', bigSep_sep', bigSep_sep']
        isplitl [H1]; · iexact H1
        isplitl [H2]; · iexact H2
        isplitl [HslW]; · iexact HslW
        iexact HWt
      · iempintro
    · isplitl
      · unfold toSendC
        rw [bigSep_sep', bigSep_sep', bigSep_sep']
        isplitl [H3]; · iexact H3
        isplitl [H4]; · iexact H4
        isplitl [HslS]; · iexact HslS
        iexact HSt
      · iempintro
  · isplitl [Hat]; · iexact Hat
    isplitl [HWd]; · iexact HWd
    iexact HSd

/-- The transfers all started: nothing is owed, and there is a credit on each send cell. -/
theorem send_end (c : Dev nD) : SendSt m c 7 7 ⊢ (iprop((∃ W, owes (c : Thread nD τ) 0 W) ∗ crds c 0 Nw ∗ crds c 2 Nc) : sProp 𝕄) := by
  unfold SendSt crds
  simp only [from_seven, upto_seven, bigSep_empty, oW_end, oC_end, add_zero]
  iintro ⟨HO, ⟨-, H1⟩, -, H2⟩
  isplitl [HO]; · iexact HO
  isplitl [H1]; · iexact H1
  iexact H2

theorem due_start (c : Dev nD) (s : Fin 4) (N : ℕ) : (iprop(posn c s 0 ∗ crds c s N) : sProp 𝕄) = bigSep (from' 0) (due c s N) := by
  unfold posn crds due; rw [from_zero, bigSep_sep']

theorem recv_start (c : Dev nD) :
    iprop((∃ W, owes (c : Thread nD τ) 0 W) ∗ (posn c 1 0 ∗ crds c 1 Nw) ∗ (posn c 3 0 ∗ crds c 3 Nc)) ⊢ (RecvSt m c 0 0 : sProp 𝕄) := by
  unfold RecvSt
  rw [due_start, due_start]
  simp only [upto_zero, bigSep_empty]
  iintro ⟨HO, H1, H2⟩
  isplitl [HO]; · iexact HO
  isplitl [H1]
  · isplitl; · iexact H1
    iempintro
  isplitl; · iexact H2
  iempintro

theorem sent_start (c : Dev nD) :
    iprop((∃ W, owes (c : Thread nD τ) 0 W) ∗ (posn c 0 0 ∗ crds c 0 Nw) ∗ (posn c 2 0 ∗ crds c 2 Nc)) ⊢ (SentSt m c 0 0 : sProp 𝕄) := by
  unfold SentSt
  rw [due_start, due_start]
  simp only [upto_zero, bigSep_empty]
  iintro ⟨HO, H1, H2⟩
  isplitl [HO]; · iexact HO
  isplitl [H1]
  · isplitl; · iexact H1
    iempintro
  isplitl; · iexact H2
  iempintro

theorem recv_end (c : Dev nD) :
    RecvSt m c 7 7 ⊢ (iprop((∃ W, owes (c : Thread nD τ) 0 W) ∗ (posn c 1 1 ∗ bigSep Finset.univ (fun j : Fin 7 => ptW c (shr c j) fullShare (WG m)))
      ∗ (posn c 3 1 ∗ bigSep Finset.univ (fun j : Fin 7 => ptS c (shr c j) fullShare (SG m)))) : sProp 𝕄) := by
  unfold RecvSt gotW gotC posn
  rw [from_seven, upto_seven]
  simp only [bigSep_empty]
  rw [bigSep_sep', bigSep_sep']
  iintro ⟨HO, ⟨-, H1⟩, -, H2⟩
  isplitl [HO]; · iexact HO
  isplitl [H1]; · iexact H1
  iexact H2

theorem sent_end (c : Dev nD) :
    SentSt m c 7 7 ⊢ (iprop((∃ W, owes (c : Thread nD τ) 0 W) ∗ (posn c 0 1 ∗ bigSep Finset.univ (fun j : Fin 7 => ptW c c (shareTok fullShare 7 j) (WG m)))
      ∗ (posn c 2 1 ∗ bigSep Finset.univ (fun j : Fin 7 => ptS c c (shareTok fullShare 7 j) (SG m)))) : sProp 𝕄) := by
  unfold SentSt backW backC posn
  rw [from_seven, upto_seven]
  simp only [bigSep_empty]
  rw [bigSep_sep', bigSep_sep']
  iintro ⟨HO, ⟨-, H1⟩, -, H2⟩
  isplitl [HO]; · iexact HO
  isplitl [H1]; · iexact H1
  iexact H2

/-- Every slot landed: the side buffer is readable as a whole, at the share kept of the own slot. -/
theorem counts_open (c : Dev nD) :
    iprop(RecvSt m c 7 7 ∗ ptS c c (shareDrop fullShare 7) (SG m))
      ⊣⊢ (iprop(((c : Thread nD τ).loc cc0_scratch1 ↦{shareDrop fullShare 7} SG m)
        ∗ ((∃ W, owes (c : Thread nD τ) 0 W) ∗ (bigSep (from' 7) (due c 1 Nw) ∗ bigSep (upto 7) (gotW m c)) ∗ bigSep (from' 7) (due c 3 Nc) ∗ posn c 3 1
          ∗ bigSep Finset.univ (fun j : Fin 7 => bigSep Finset.univ (fun i : Fin 7 => ptS c (shr c j) (shareTok fullShare 7 i) (SG m))))) : sProp 𝕄) := by
  rw [wholeS, univ_around']
  have hcut : (bigSep Finset.univ (fun j : Fin 7 => ptS c (shr c j) fullShare (SG m)) : sProp 𝕄)
      = iprop(bigSep Finset.univ (fun j : Fin 7 => ptS c (shr c j) (shareDrop fullShare 7) (SG m))
        ∗ bigSep Finset.univ (fun j : Fin 7 => bigSep Finset.univ (fun i : Fin 7 => ptS c (shr c j) (shareTok fullShare 7 i) (SG m)))) := by
    rw [← bigSep_sep']
    exact bigSep_congr fun j _ => (cutS c (shr c j) (SG m)).1.antisymm (cutS c (shr c j) (SG m)).2
  unfold RecvSt posn
  rw [upto_seven, show (bigSep Finset.univ (gotC m c) : sProp 𝕄) = _ from bigSep_sep' _ _ _, hcut]
  constructor
  · iintro ⟨⟨HO, HW, Hd, Hp, HD, HT⟩, Hs⟩
    isplitl [HD Hs]
    · isplitl [Hs]; · iexact Hs
      iexact HD
    isplitl [HO]; · iexact HO
    isplitl [HW]; · iexact HW
    isplitl [Hd]; · iexact Hd
    isplitl [Hp]; · iexact Hp
    iexact HT
  · iintro ⟨⟨Hs, HD⟩, HO, HW, Hd, Hp, HT⟩
    isplitr [Hs]
    · isplitl [HO]; · iexact HO
      isplitl [HW]; · iexact HW
      isplitl [Hd]; · iexact Hd
      isplitl [Hp]; · iexact Hp
      isplitl [HD]; · iexact HD
      iexact HT
    · iexact Hs

/-- The eight slots of the weights are the buffer again, -/
theorem joinW (c : Dev nD) :
    iprop(ptW c c (shareDrop fullShare 7) (WG m) ∗ bigSep Finset.univ (fun j : Fin 7 => ptW c c (shareTok fullShare 7 j) (WG m))
        ∗ bigSep Finset.univ (fun j : Fin 7 => ptW c (shr c j) fullShare (WG m)))
      ⊢ ((c : Thread nD τ).loc cc0_scratch0 ↦{fullShare} WG m : sProp 𝕄) := by
  rw [wholeW, univ_around']
  iintro ⟨H1, H2, H3⟩
  isplitl [H1 H2]
  · iapply (cutW c (WG m)).2
    isplitl [H1]; · iexact H1
    iexact H2
  iexact H3
/-- and those of the side buffer. -/
theorem joinS (c : Dev nD) :
    iprop(ptS c c (shareDrop fullShare 7) (SG m) ∗ bigSep Finset.univ (fun j : Fin 7 => ptS c c (shareTok fullShare 7 j) (SG m))
        ∗ bigSep Finset.univ (fun j : Fin 7 => ptS c (shr c j) fullShare (SG m)))
      ⊢ ((c : Thread nD τ).loc cc0_scratch1 ↦{fullShare} SG m : sProp 𝕄) := by
  rw [wholeS, univ_around']
  iintro ⟨H1, H2, H3⟩
  isplitl [H1 H2]
  · iapply (cutS c c (SG m)).2
    isplitl [H1]; · iexact H1
    iexact H2
  iexact H3

/-- The seven cells of a kind close: their counters at zero are the device's again. -/
theorem close_kind (K : Dev nD × Ci → ℕ) (c : Dev nD) (s : Fin 4) : (iprop(records m K ∗ posn c s 1) : sProp 𝕄) ⊢ iprop(|={Set.univ}=> zeros c s) := by
  unfold posn zeros
  refine BIBase.Entails.trans ?_ (bigSep_fupd _ _)
  refine BIBase.Entails.trans (Q := bigSep Finset.univ (fun j : Fin 7 => iprop(records m K ∗ atPos ER (kcell (c, some (s, j))) 1 ∅ 0))) ?_ (bigSep_mono fun j _ => ?_)
  · rw [bigSep_sep']
    exact sep_mono_left (BI.bigSep_of_persistent _ _)
  · show (iprop(records m K ∗ atPos ER (kcell (c, some (s, j))) 1 ∅ 0) : sProp 𝕄) ⊢ iprop(|={Set.univ}=> semVal (kcell (c, some (s, j))) 0)
    iintro ⟨#HR, H⟩
    iapply (Rounds.cell_close ER (rd m) (Set.mem_univ (K (c, some (s, j)))) (fun h => h) (R := 0 + 1) (duties_later m (kcell (c, some (s, j)))))
    isplitr
    · iapply (inv_of m K (c, some (s, j))); iexact HR
    iexact H
/-- So does the barrier's. -/
theorem close_bar (K : Dev nD × Ci → ℕ) (c : Dev nD) : (iprop(records m K ∗ atPos ER (barC c) 1 ∅ 0) : sProp 𝕄) ⊢ iprop(|={Set.univ}=> semVal (barC c) 0) := by
  iintro ⟨#HR, H⟩
  iapply (Rounds.cell_close ER (rd m) (Set.mem_univ (K (c, none))) (fun h => h) (R := 0 + 1) (duties_later m (barC c)))
  isplitr
  · iapply (inv_of m K (c, none)); iexact HR
  iexact H

end Cert.Moe

end
-- ==== Proof.PartsA.lean ====
/-
# The body's parts up to the transfers

Each lemma says what one printed part of the body does to the device's state, and which values it hands on.
-/
module

public import proofs.«01_k».proof.Proof.States

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

theorem part1 (K : Dev nD × Ci → ℕ) (c : Dev nD) {α : Type} {Q : α → sProp (MT nD τ sig Unit (Elt F) ℕ UU ℕ)} (f : (cc0_scratch0 : Ref sig .tc).ty.Contents (Elt F)) (g : (cc0_scratch1 : Ref sig .tc).ty.Contents (Elt F))
    {k : (Σ' (d0 : Dev nD) (v2 : BitVec 32) (v4 : IVec S512x1 32) (v9 : FVec F S512x16 .f32) (v17 : FVec F S1x1 .f32) (v38 : Sems sig S_) (v39 : BitVec 32), BitVec 32) → Prog (TpuEff nD τ sig (Elt F) Λ₀ .tc) α} :
    iprop(records m K ∗ ((c : Thread nD τ).loc cc0_stg1_0 ↦{fullShare} eIn m c) ∗ ((c : Thread nD τ).loc cc0_stg2_0 ↦{fullShare} wIn m c) ∗ ptW c c fullShare f ∗ ptS c c fullShare g)
      ⊢ iprop((iprop(((c : Thread nD τ).loc cc0_stg1_0 ↦{fullShare} eIn m c) ∗ ((c : Thread nD τ).loc cc0_stg2_0 ↦{fullShare} wIn m c) ∗ ptW c c fullShare (WG m) ∗ ptS c c fullShare (SG m)) -∗ wp frame (wpE (defs₀ (F := F)) 𝒱₀ (c : Thread nD τ) none) Set.univ (k ⟨c, (Scalar.remsi (Scalar.divsi (Dev.word c) 1#32) 8#32), k0_pay1 (eIn m c), k0_pay2 (eIn m c), k0_pay4 (wIn m c), (SemArray.scalar (sig.barrier 0 rfl)), Scalar.addi (Scalar.remsi (Scalar.divsi (Dev.word c) 1#32) 8#32) 1#32, 8#32⟩) Q)
          -∗ wp frame (wpE (defs₀ (F := F)) 𝒱₀ (c : Thread nD τ) none) Set.univ (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5  >>= k) Q) := by
  rw [k0_part1_eq_skeleton]; unfold k0_part1_skel
  simp only [semSignalWord, semWaitWord, Prog.lift, Prog.bind_op, Prog.bind_ret, Prog.pure_eq_ret, wp_deviceId]
  iintro ⟨#HR, He, Hw, HW, HS⟩ Hk
  iapply (load_e c fullShare (eIn m c)) $$ He
  iintro He
  iapply (load_w c fullShare (wIn m c)) $$ Hw
  iintro Hw
  iapply (load_S_any c c fullShare g (k0_off1_eq c) (fun _ => rfl)) $$ HS
  iintro HS
  iapply (store_S m c g (k0_off1_eq c)) $$ HS
  iintro HS
  iapply (load_W_any c c fullShare f (k0_off2_eq c) (fun _ => rfl)) $$ HW
  iintro HW
  iapply (store_W m c f (k0_off2_eq c)) $$ HW
  iintro HW
  iapply Hk
  isplitl [He]; · iexact He
  isplitl [Hw]; · iexact Hw
  isplitl [HW]; · iexact HW
  iexact HS

theorem part2 (K : Dev nD × Ci → ℕ) (c : Dev nD) {α : Type} {Q : α → sProp (MT nD τ sig Unit (Elt F) ℕ UU ℕ)} (v2 v39 c8 : BitVec 32)
    {k : (Σ' (v63 : BitVec 32), BitVec 32) → Prog (TpuEff nD τ sig (Elt F) Λ₀ .tc) α} :
    iprop(records m K ∗ SigSt c 0)
      ⊢ iprop((SigSt c 6 -∗ wp frame (wpE (defs₀ (F := F)) 𝒱₀ (c : Thread nD τ) none) Set.univ (k ⟨Scalar.addi v2 7#32, 8#32⟩) Q)
          -∗ wp frame (wpE (defs₀ (F := F)) 𝒱₀ (c : Thread nD τ) none) Set.univ (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 c v2 (SemArray.scalar (sig.barrier 0 rfl)) v39 c8 >>= k) Q) := by
  rw [k0_part2_eq_skeleton]; unfold k0_part2_skel
  simp only [semSignalWord, semWaitWord, Prog.lift, Prog.bind_op, Prog.bind_ret, Prog.pure_eq_ret]
  iintro ⟨#HR, HS⟩ Hk
  iapply (sig_move m K c at0 (devB1 c)) $$ [HS]
  · isplitr; · iexact HR
    iexact HS
  iintro HS
  iapply (sig_move m K c at1 (devB2 c)) $$ [HS]
  · isplitr; · iexact HR
    iexact HS
  iintro HS
  iapply (sig_move m K c at2 (devB3 c)) $$ [HS]
  · isplitr; · iexact HR
    iexact HS
  iintro HS
  iapply (sig_move m K c at3 (devB4 c)) $$ [HS]
  · isplitr; · iexact HR
    iexact HS
  iintro HS
  iapply (sig_move m K c at4 (devB5 c)) $$ [HS]
  · isplitr; · iexact HR
    iexact HS
  iintro HS
  iapply (sig_move m K c at5 (devB6 c)) $$ [HS]
  · isplitr; · iexact HR
    iexact HS
  iintro HS
  iapply Hk
  iexact HS

theorem part3 (K : Dev nD × Ci → ℕ) (c : Dev nD) {α : Type} {Q : α → sProp (MT nD τ sig Unit (Elt F) ℕ UU ℕ)} (v2 v63 c8 : BitVec 32) {R R' : sProp (MT nD τ sig Unit (Elt F) ℕ UU ℕ)}
    (hR : iprop(iprop((∃ W, owes (c : Thread nD τ) (oW c 0 + oC c 0) W) ∗ atPos ER (barC c) 1 ∅ 0 ∗ bigSep Finset.univ (fun j => slots (shl c j) c)) ∗ R) ⊢ iprop(SendSt m c 0 0 ∗ R'))
    {k : BitVec 32 → Prog (TpuEff nD τ sig (Elt F) Λ₀ .tc) α} :
    iprop(records m K ∗ levAts L lv ∗ SigSt c 6 ∗ cred (tallyAt (barC c) () 7) ∗ atPos ER (barC c) 0 ∅ 0 ∗ R)
      ⊢ iprop(((SendSt m c 1 1 ∗ R') -∗ wp frame (wpE (defs₀ (F := F)) 𝒱₀ (c : Thread nD τ) none) Set.univ (k (Scalar.remsi (Scalar.addi v2 2#32) 8#32)) Q)
          -∗ wp frame (wpE (defs₀ (F := F)) 𝒱₀ (c : Thread nD τ) none) Set.univ (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 c v2 (SemArray.scalar (sig.barrier 0 rfl)) v63 c8 >>= k) Q) := by
  rw [k0_part3_eq_skeleton]; unfold k0_part3_skel
  simp only [semSignalWord, semWaitWord, Prog.lift, Prog.bind_op, Prog.bind_ret, Prog.pure_eq_ret]
  iintro ⟨#HR, #Hlev, HS, Hc, Hat, Hres⟩ Hk
  iapply (sig_move m K c at6 (devB7 c)) $$ [HS]
  · isplitr; · iexact HR
    iexact HS
  iintro HS
  unfold SigSt
  icases HS with ⟨⟨%W, HO⟩, Hnone⟩
  iclear Hnone
  ihave HO := (Entails.of_eq (congrArg (fun O => (owes (c : Thread nD τ) O W : sProp 𝕄)) (show oB c 7 + (oW c 0 + oC c 0) = oW c 0 + oC c 0 from by rw [oB_end, zero_add]))) $$ HO
  iapply (bar_step m K c W) $$ [HO Hc Hat]
  · isplitr; · iexact HR
    isplitr; · iexact Hlev
    isplitl [HO]; · iexact HO
    isplitl [Hc]; · iexact Hc
    iexact Hat
  iintro ⟨HO, Hat, Hsl⟩
  ihave H := hR $$ [HO Hat Hsl Hres]
  · isplitr [Hres]
    · isplitl [HO]; · iexists _; iexact HO
      isplitl [Hat]; · iexact Hat
      iexact Hsl
    iexact Hres
  icases H with ⟨HS, HR'⟩
  iapply (sendW_move m K c at0 0 (devB8 c) (own3 c) (own3 c) rfl rfl) $$ [HS]
  · isplitr; · iexact HR
    iexact HS
  iintro HS
  iapply (sendC_move m K c at0 1 (devB9 c) (own4 c) (own4 c) rfl rfl) $$ [HS]
  · isplitr; · iexact HR
    iexact HS
  iintro HS
  iapply Hk
  isplitl [HS]; · iexact HS
  iexact HR'

theorem part4 (K : Dev nD × Ci → ℕ) (c : Dev nD) {α : Type} {Q : α → sProp (MT nD τ sig Unit (Elt F) ℕ UU ℕ)} (v2 v90 : BitVec 32)
    {k : BitVec 32 → Prog (TpuEff nD τ sig (Elt F) Λ₀ .tc) α} :
    iprop(records m K ∗ SendSt m c 1 1)
      ⊢ iprop((SendSt m c 2 2 -∗ wp frame (wpE (defs₀ (F := F)) 𝒱₀ (c : Thread nD τ) none) Set.univ (k (Scalar.remsi (Scalar.addi v2 3#32) 8#32)) Q)
          -∗ wp frame (wpE (defs₀ (F := F)) 𝒱₀ (c : Thread nD τ) none) Set.univ (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 c v2 v90 >>= k) Q) := by
  rw [k0_part4_eq_skeleton]; unfold k0_part4_skel
  simp only [semSignalWord, semWaitWord, Prog.lift, Prog.bind_op, Prog.bind_ret, Prog.pure_eq_ret]
  iintro ⟨#HR, HS⟩ Hk
  iapply (sendW_move m K c at1 1 (devB10 c) (own3 c) (own3 c) rfl rfl) $$ [HS]
  · isplitr; · iexact HR
    iexact HS
  iintro HS
  iapply (sendC_move m K c at1 2 (devB11 c) (own4 c) (own4 c) rfl rfl) $$ [HS]
  · isplitr; · iexact HR
    iexact HS
  iintro HS
  iapply Hk
  iexact HS

theorem part5 (K : Dev nD × Ci → ℕ) (c : Dev nD) {α : Type} {Q : α → sProp (MT nD τ sig Unit (Elt F) ℕ UU ℕ)} (v2 v112 : BitVec 32)
    {k : PUnit → Prog (TpuEff nD τ sig (Elt F) Λ₀ .tc) α} :
    iprop(records m K ∗ SendSt m c 2 2)
      ⊢ iprop((SendSt m c 4 3 -∗ wp frame (wpE (defs₀ (F := F)) 𝒱₀ (c : Thread nD τ) none) Set.univ (k ⟨⟩) Q)
          -∗ wp frame (wpE (defs₀ (F := F)) 𝒱₀ (c : Thread nD τ) none) Set.univ (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 c v2 v112 >>= k) Q) := by
  rw [k0_part5_eq_skeleton]; unfold k0_part5_skel
  simp only [semSignalWord, semWaitWord, Prog.lift, Prog.bind_op, Prog.bind_ret, Prog.pure_eq_ret]
  iintro ⟨#HR, HS⟩ Hk
  iapply (sendW_move m K c at2 2 (devB12 c) (own3 c) (own3 c) rfl rfl) $$ [HS]
  · isplitr; · iexact HR
    iexact HS
  iintro HS
  iapply (sendC_move m K c at2 3 (devB13 c) (own4 c) (own4 c) rfl rfl) $$ [HS]
  · isplitr; · iexact HR
    iexact HS
  iintro HS
  iapply (sendW_move m K c at3 3 (devB14 c) (own3 c) (own3 c) rfl rfl) $$ [HS]
  · isplitr; · iexact HR
    iexact HS
  iintro HS
  iapply Hk
  iexact HS

theorem part6 (K : Dev nD × Ci → ℕ) (c : Dev nD) {α : Type} {Q : α → sProp (MT nD τ sig Unit (Elt F) ℕ UU ℕ)} (v2 : BitVec 32)
    {k : BitVec 32 → Prog (TpuEff nD τ sig (Elt F) Λ₀ .tc) α} :
    iprop(records m K ∗ SendSt m c 4 3)
      ⊢ iprop((SendSt m c 5 5 -∗ wp frame (wpE (defs₀ (F := F)) 𝒱₀ (c : Thread nD τ) none) Set.univ (k (Scalar.remsi (Scalar.addi v2 6#32) 8#32)) Q)
          -∗ wp frame (wpE (defs₀ (F := F)) 𝒱₀ (c : Thread nD τ) none) Set.univ (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 c v2 >>= k) Q) := by
  rw [k0_part6_eq_skeleton]; unfold k0_part6_skel
  simp only [semSignalWord, semWaitWord, Prog.lift, Prog.bind_op, Prog.bind_ret, Prog.pure_eq_ret]
  iintro ⟨#HR, HS⟩ Hk
  iapply (sendC_move m K c at3 4 (devB15 c) (own4 c) (own4 c) rfl rfl) $$ [HS]
  · isplitr; · iexact HR
    iexact HS
  iintro HS
  iapply (sendW_move m K c at4 4 (devB16 c) (own3 c) (own3 c) rfl rfl) $$ [HS]
  · isplitr; · iexact HR
    iexact HS
  iintro HS
  iapply (sendC_move m K c at4 5 (devB17 c) (own4 c) (own4 c) rfl rfl) $$ [HS]
  · isplitr; · iexact HR
    iexact HS
  iintro HS
  iapply Hk
  iexact HS

theorem part7 (K : Dev nD × Ci → ℕ) (c : Dev nD) {α : Type} {Q : α → sProp (MT nD τ sig Unit (Elt F) ℕ UU ℕ)} (v2 v178 : BitVec 32)
    {k : BitVec 32 → Prog (TpuEff nD τ sig (Elt F) Λ₀ .tc) α} :
    iprop(records m K ∗ SendSt m c 5 5)
      ⊢ iprop((SendSt m c 7 6 -∗ wp frame (wpE (defs₀ (F := F)) 𝒱₀ (c : Thread nD τ) none) Set.univ (k (Scalar.remsi (Scalar.addi v2 7#32) 8#32)) Q)
          -∗ wp frame (wpE (defs₀ (F := F)) 𝒱₀ (c : Thread nD τ) none) Set.univ (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 c v2 v178 >>= k) Q) := by
  rw [k0_part7_eq_skeleton]; unfold k0_part7_skel
  simp only [semSignalWord, semWaitWord, Prog.lift, Prog.bind_op, Prog.bind_ret, Prog.pure_eq_ret]
  iintro ⟨#HR, HS⟩ Hk
  iapply (sendW_move m K c at5 5 (devB18 c) (own3 c) (own3 c) rfl rfl) $$ [HS]
  · isplitr; · iexact HR
    iexact HS
  iintro HS
  iapply (sendC_move m K c at5 6 (devB19 c) (own4 c) (own4 c) rfl rfl) $$ [HS]
  · isplitr; · iexact HR
    iexact HS
  iintro HS
  iapply (sendW_move m K c at6 6 (devB20 c) (own3 c) (own3 c) rfl rfl) $$ [HS]
  · isplitr; · iexact HR
    iexact HS
  iintro HS
  iapply Hk
  iexact HS

theorem part8 (K : Dev nD × Ci → ℕ) (c : Dev nD) {α : Type} {Q : α → sProp (MT nD τ sig Unit (Elt F) ℕ UU ℕ)} (v2 : BitVec 32) (v4 : IVec S512x1 32) (v200 : BitVec 32)
    {k : (Σ' (v225 : FVec F S512x1 .f32) (v231 : IVec S512x256 8) (v234 : IVec S2x256x512 8) (v235 : FVec F S512x512 .f32) (v242 : IVec S512x256 8) (v248 : IVec S512x256 1), IVec S512x256 8) → Prog (TpuEff nD τ sig (Elt F) Λ₀ .tc) α} :
    iprop(records m K ∗ SendSt m c 7 6 ∗ ((c : Thread nD τ).loc cc0_stg0_0 ↦{fullShare} xIn m c) ∗ ptW c c (shareDrop fullShare 7) (WG m))
      ⊢ iprop((iprop(SendSt m c 7 7 ∗ ((c : Thread nD τ).loc cc0_stg0_0 ↦{fullShare} xIn m c) ∗ ptW c c (shareDrop fullShare 7) (WG m)) -∗ wp frame (wpE (defs₀ (F := F)) 𝒱₀ (c : Thread nD τ) none) Set.univ (k ⟨k0_pay8 (xIn m c), k0_pay9 (xIn m c), k0_pay10 (qw m c), k0_pay11 (F := F), k0_pay12 v2 v4 (xIn m c), k0_pay13 v2 v4, k0_pay14⟩) Q)
          -∗ wp frame (wpE (defs₀ (F := F)) 𝒱₀ (c : Thread nD τ) none) Set.univ (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 c v2 v4 v200 >>= k) Q) := by
  rw [k0_part8_eq_skeleton]; unfold k0_part8_skel
  simp only [semSignalWord, semWaitWord, Prog.lift, Prog.bind_op, Prog.bind_ret, Prog.pure_eq_ret]
  iintro ⟨#HR, HS, Hx, HW⟩ Hk
  iapply (sendC_move m K c at6 7 (devB21 c) (own4 c) (own4 c) rfl rfl) $$ [HS]
  · isplitr; · iexact HR
    iexact HS
  iintro HS
  iapply (load_x c fullShare (xIn m c)) $$ Hx
  iintro Hx
  iapply (load_W m c c (shareDrop fullShare 7) (k0_off2_eq c)) $$ HW
  iintro HW
  iapply Hk
  isplitl [HS]; · iexact HS
  isplitl [Hx]; · iexact Hx
  iexact HW

end Cert.Moe

end
-- ==== Proof.PartsB.lean ====
/-
# The body's parts from the landings on
-/
module

public import proofs.«01_k».proof.Proof.States

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

theorem part9 (K : Dev nD × Ci → ℕ) (c : Dev nD) {α : Type} {Q : α → sProp (MT nD τ sig Unit (Elt F) ℕ UU ℕ)} (v2 : BitVec 32) (v17 : FVec F S1x1 .f32) (v231 : IVec S512x256 8) (v234 : IVec S2x256x512 8) (v235 : FVec F S512x512 .f32) (v242 : IVec S512x256 8) (v248 : IVec S512x256 1) (v249 : IVec S512x256 8)
    {k : (Σ' (v257 : FVec F S512x512 .f32) (v260 : BitVec 32), FVec F S1x1 .f32) → Prog (TpuEff nD τ sig (Elt F) Λ₀ .tc) α} :
    iprop(records m K ∗ RecvSt m c 0 0)
      ⊢ iprop((RecvSt m c 1 1 -∗ wp frame (wpE (defs₀ (F := F)) 𝒱₀ (c : Thread nD τ) none) Set.univ (k ⟨k0_pay15 v17 v231 v234 v235 v242 v248 v249, (Scalar.remsi (Scalar.addi (Scalar.subi v2 1#32) 8#32) 8#32), k0_pay16 (dq m (shr c at0))⟩) Q)
          -∗ wp frame (wpE (defs₀ (F := F)) 𝒱₀ (c : Thread nD τ) none) Set.univ (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 c v2 v17 v231 v234 v235 v242 v248 v249 >>= k) Q) := by
  rw [k0_part9_eq_skeleton]; unfold k0_part9_skel
  simp only [semSignalWord, semWaitWord, Prog.lift, Prog.bind_op, Prog.bind_ret, Prog.pure_eq_ret]
  iintro ⟨#HR, HS⟩ Hk
  iapply (recvW_move m K c at0 0 rfl) $$ [HS]
  · isplitr; · iexact HR
    iexact HS
  iintro HS
  iapply (recvC_move m K c at0 1 rfl) $$ [HS]
  · isplitr; · iexact HR
    iexact HS
  iintro HS
  iapply (loadD_move m c at0 1 (k0_off7_eq c at0)) $$ HS
  iintro HS
  iapply Hk
  iexact HS

theorem part10 (K : Dev nD × Ci → ℕ) (c : Dev nD) {α : Type} {Q : α → sProp (MT nD τ sig Unit (Elt F) ℕ UU ℕ)} (v2 : BitVec 32) (v4 : IVec S512x1 32) (v231 : IVec S512x256 8) (v257 : FVec F S512x512 .f32) (v260 : BitVec 32) (v279 : FVec F S1x1 .f32)
    {k : (Σ' (v304 : FVec F S512x512 .f32) (v307 : BitVec 32) (v316 : BitVec 32), BitVec 32) → Prog (TpuEff nD τ sig (Elt F) Λ₀ .tc) α} :
    iprop(records m K ∗ RecvSt m c 1 1)
      ⊢ iprop((RecvSt m c 2 1 -∗ wp frame (wpE (defs₀ (F := F)) 𝒱₀ (c : Thread nD τ) none) Set.univ (k ⟨k0_pay17 v4 v231 v257 v260 v279 (qw m (shr c at0)), (Scalar.remsi (Scalar.addi (Scalar.subi v2 2#32) 8#32) 8#32), Scalar.muli v2 1#32, 0#32⟩) Q)
          -∗ wp frame (wpE (defs₀ (F := F)) 𝒱₀ (c : Thread nD τ) none) Set.univ (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 c v2 v4 v231 v257 v260 v279 >>= k) Q) := by
  rw [k0_part10_eq_skeleton]; unfold k0_part10_skel
  simp only [semSignalWord, semWaitWord, Prog.lift, Prog.bind_op, Prog.bind_ret, Prog.pure_eq_ret]
  iintro ⟨#HR, HS⟩ Hk
  iapply (loadW_move m c at0 1 (k0_off8_eq c at0)) $$ HS
  iintro HS
  iapply (recvW_move m K c at1 1 rfl) $$ [HS]
  · isplitr; · iexact HR
    iexact HS
  iintro HS
  iapply Hk
  iexact HS

theorem part11 (K : Dev nD × Ci → ℕ) (c : Dev nD) {α : Type} {Q : α → sProp (MT nD τ sig Unit (Elt F) ℕ UU ℕ)} (v2 : BitVec 32) (v4 : IVec S512x1 32) (v231 : IVec S512x256 8) (v304 : FVec F S512x512 .f32) (v307 v316 c0 : BitVec 32)
    {k : (Σ' (v351 : FVec F S512x512 .f32) (v354 : BitVec 32), BitVec 32) → Prog (TpuEff nD τ sig (Elt F) Λ₀ .tc) α} :
    iprop(records m K ∗ RecvSt m c 2 1)
      ⊢ iprop((RecvSt m c 2 2 -∗ wp frame (wpE (defs₀ (F := F)) 𝒱₀ (c : Thread nD τ) none) Set.univ (k ⟨k0_pay18 v4 v231 v304 v307 (dq m (shr c at1)) (qw m (shr c at1)), (Scalar.remsi (Scalar.addi (Scalar.subi v2 3#32) 8#32) 8#32), 1#32⟩) Q)
          -∗ wp frame (wpE (defs₀ (F := F)) 𝒱₀ (c : Thread nD τ) none) Set.univ (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 c v2 v4 v231 v304 v307 v316 c0 >>= k) Q) := by
  rw [k0_part11_eq_skeleton]; unfold k0_part11_skel
  simp only [semSignalWord, semWaitWord, Prog.lift, Prog.bind_op, Prog.bind_ret, Prog.pure_eq_ret]
  iintro ⟨#HR, HS⟩ Hk
  iapply (recvC_move m K c at1 2 rfl) $$ [HS]
  · isplitr; · iexact HR
    iexact HS
  iintro HS
  iapply (loadD_move m c at1 2 (k0_off7_eq c at1)) $$ HS
  iintro HS
  iapply (loadW_move m c at1 2 (k0_off8_eq c at1)) $$ HS
  iintro HS
  iapply Hk
  iexact HS

theorem part12 (K : Dev nD × Ci → ℕ) (c : Dev nD) {α : Type} {Q : α → sProp (MT nD τ sig Unit (Elt F) ℕ UU ℕ)} (v2 : BitVec 32) (v4 : IVec S512x1 32) (v231 : IVec S512x256 8) (v354 c1 : BitVec 32)
    {k : (Σ' (v373 : FVec F S1x1 .f32) (v376 : IVec S2x256x512 8) (v383 : IVec S512x256 8) (v387 : IVec S512x1 1), BitVec 8) → Prog (TpuEff nD τ sig (Elt F) Λ₀ .tc) α} :
    iprop(records m K ∗ RecvSt m c 2 2)
      ⊢ iprop((RecvSt m c 3 3 -∗ wp frame (wpE (defs₀ (F := F)) 𝒱₀ (c : Thread nD τ) none) Set.univ (k ⟨k0_pay19 (dq m (shr c at2)), k0_pay20 (qw m (shr c at2)), k0_pay21 v4 v231 v354, k0_pay22 v4 v354, 0#8⟩) Q)
          -∗ wp frame (wpE (defs₀ (F := F)) 𝒱₀ (c : Thread nD τ) none) Set.univ (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 c v2 v4 v231 v354 c1 >>= k) Q) := by
  rw [k0_part12_eq_skeleton]; unfold k0_part12_skel
  simp only [semSignalWord, semWaitWord, Prog.lift, Prog.bind_op, Prog.bind_ret, Prog.pure_eq_ret]
  iintro ⟨#HR, HS⟩ Hk
  iapply (recvW_move m K c at2 2 rfl) $$ [HS]
  · isplitr; · iexact HR
    iexact HS
  iintro HS
  iapply (recvC_move m K c at2 3 rfl) $$ [HS]
  · isplitr; · iexact HR
    iexact HS
  iintro HS
  iapply (loadD_move m c at2 3 (k0_off7_eq c at2)) $$ HS
  iintro HS
  iapply (loadW_move m c at2 3 (k0_off8_eq c at2)) $$ HS
  iintro HS
  iapply Hk
  iexact HS

theorem part13 (K : Dev nD × Ci → ℕ) (c : Dev nD) {α : Type} {Q : α → sProp (MT nD τ sig Unit (Elt F) ℕ UU ℕ)} (v2 : BitVec 32) (v231 : IVec S512x256 8) (v351 : FVec F S512x512 .f32) (v373 : FVec F S1x1 .f32) (v376 : IVec S2x256x512 8) (v383 : IVec S512x256 8) (v387 : IVec S512x1 1) (c0 : BitVec 8)
    {k : (Σ' (v398 : FVec F S512x512 .f32) (v401 : BitVec 32), FVec F S1x1 .f32) → Prog (TpuEff nD τ sig (Elt F) Λ₀ .tc) α} :
    iprop(records m K ∗ RecvSt m c 3 3)
      ⊢ iprop((RecvSt m c 4 4 -∗ wp frame (wpE (defs₀ (F := F)) 𝒱₀ (c : Thread nD τ) none) Set.univ (k ⟨k0_pay23 v231 v351 v373 v376 v383 v387 c0, (Scalar.remsi (Scalar.addi (Scalar.subi v2 4#32) 8#32) 8#32), k0_pay24 (dq m (shr c at3))⟩) Q)
          -∗ wp frame (wpE (defs₀ (F := F)) 𝒱₀ (c : Thread nD τ) none) Set.univ (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 c v2 v231 v351 v373 v376 v383 v387 c0 >>= k) Q) := by
  rw [k0_part13_eq_skeleton]; unfold k0_part13_skel
  simp only [semSignalWord, semWaitWord, Prog.lift, Prog.bind_op, Prog.bind_ret, Prog.pure_eq_ret]
  iintro ⟨#HR, HS⟩ Hk
  iapply (recvW_move m K c at3 3 rfl) $$ [HS]
  · isplitr; · iexact HR
    iexact HS
  iintro HS
  iapply (recvC_move m K c at3 4 rfl) $$ [HS]
  · isplitr; · iexact HR
    iexact HS
  iintro HS
  iapply (loadD_move m c at3 4 (k0_off7_eq c at3)) $$ HS
  iintro HS
  iapply Hk
  iexact HS

theorem part14 (K : Dev nD × Ci → ℕ) (c : Dev nD) {α : Type} {Q : α → sProp (MT nD τ sig Unit (Elt F) ℕ UU ℕ)} (v2 : BitVec 32) (v4 : IVec S512x1 32) (v231 : IVec S512x256 8) (v398 : FVec F S512x512 .f32) (v401 : BitVec 32) (v420 : FVec F S1x1 .f32)
    {k : (Σ' (v445 : FVec F S512x512 .f32), BitVec 32) → Prog (TpuEff nD τ sig (Elt F) Λ₀ .tc) α} :
    iprop(records m K ∗ RecvSt m c 4 4)
      ⊢ iprop((RecvSt m c 5 4 -∗ wp frame (wpE (defs₀ (F := F)) 𝒱₀ (c : Thread nD τ) none) Set.univ (k ⟨k0_pay25 v4 v231 v398 v401 v420 (qw m (shr c at3)), (Scalar.remsi (Scalar.addi (Scalar.subi v2 5#32) 8#32) 8#32)⟩) Q)
          -∗ wp frame (wpE (defs₀ (F := F)) 𝒱₀ (c : Thread nD τ) none) Set.univ (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 c v2 v4 v231 v398 v401 v420 >>= k) Q) := by
  rw [k0_part14_eq_skeleton]; unfold k0_part14_skel
  simp only [semSignalWord, semWaitWord, Prog.lift, Prog.bind_op, Prog.bind_ret, Prog.pure_eq_ret]
  iintro ⟨#HR, HS⟩ Hk
  iapply (loadW_move m c at3 4 (k0_off8_eq c at3)) $$ HS
  iintro HS
  iapply (recvW_move m K c at4 4 rfl) $$ [HS]
  · isplitr; · iexact HR
    iexact HS
  iintro HS
  iapply Hk
  iexact HS

theorem part15 (K : Dev nD × Ci → ℕ) (c : Dev nD) {α : Type} {Q : α → sProp (MT nD τ sig Unit (Elt F) ℕ UU ℕ)} (v2 : BitVec 32) (v4 : IVec S512x1 32) (v231 : IVec S512x256 8) (v445 : FVec F S512x512 .f32) (v448 : BitVec 32)
    {k : (Σ' (v492 : FVec F S512x512 .f32), BitVec 32) → Prog (TpuEff nD τ sig (Elt F) Λ₀ .tc) α} :
    iprop(records m K ∗ RecvSt m c 5 4)
      ⊢ iprop((RecvSt m c 5 5 -∗ wp frame (wpE (defs₀ (F := F)) 𝒱₀ (c : Thread nD τ) none) Set.univ (k ⟨k0_pay26 v4 v231 v445 v448 (dq m (shr c at4)) (qw m (shr c at4)), (Scalar.remsi (Scalar.addi (Scalar.subi v2 6#32) 8#32) 8#32)⟩) Q)
          -∗ wp frame (wpE (defs₀ (F := F)) 𝒱₀ (c : Thread nD τ) none) Set.univ (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 c v2 v4 v231 v445 v448 >>= k) Q) := by
  rw [k0_part15_eq_skeleton]; unfold k0_part15_skel
  simp only [semSignalWord, semWaitWord, Prog.lift, Prog.bind_op, Prog.bind_ret, Prog.pure_eq_ret]
  iintro ⟨#HR, HS⟩ Hk
  iapply (recvC_move m K c at4 5 rfl) $$ [HS]
  · isplitr; · iexact HR
    iexact HS
  iintro HS
  iapply (loadD_move m c at4 5 (k0_off7_eq c at4)) $$ HS
  iintro HS
  iapply (loadW_move m c at4 5 (k0_off8_eq c at4)) $$ HS
  iintro HS
  iapply Hk
  iexact HS

theorem part16 (K : Dev nD × Ci → ℕ) (c : Dev nD) {α : Type} {Q : α → sProp (MT nD τ sig Unit (Elt F) ℕ UU ℕ)} (v2 : BitVec 32) (v4 : IVec S512x1 32) (v231 : IVec S512x256 8) (v495 : BitVec 32)
    {k : (Σ' (v514 : FVec F S1x1 .f32) (v517 : IVec S2x256x512 8) (v524 : IVec S512x256 8), BitVec 32) → Prog (TpuEff nD τ sig (Elt F) Λ₀ .tc) α} :
    iprop(records m K ∗ RecvSt m c 5 5)
      ⊢ iprop((RecvSt m c 6 6 -∗ wp frame (wpE (defs₀ (F := F)) 𝒱₀ (c : Thread nD τ) none) Set.univ (k ⟨k0_pay27 (dq m (shr c at5)), k0_pay28 (qw m (shr c at5)), k0_pay29 v4 v231 v495, Scalar.addi (Scalar.muli 2#32 v495) 1#32⟩) Q)
          -∗ wp frame (wpE (defs₀ (F := F)) 𝒱₀ (c : Thread nD τ) none) Set.univ (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 c v2 v4 v231 v495 >>= k) Q) := by
  rw [k0_part16_eq_skeleton]; unfold k0_part16_skel
  simp only [semSignalWord, semWaitWord, Prog.lift, Prog.bind_op, Prog.bind_ret, Prog.pure_eq_ret]
  iintro ⟨#HR, HS⟩ Hk
  iapply (recvW_move m K c at5 5 rfl) $$ [HS]
  · isplitr; · iexact HR
    iexact HS
  iintro HS
  iapply (recvC_move m K c at5 6 rfl) $$ [HS]
  · isplitr; · iexact HR
    iexact HS
  iintro HS
  iapply (loadD_move m c at5 6 (k0_off7_eq c at5)) $$ HS
  iintro HS
  iapply (loadW_move m c at5 6 (k0_off8_eq c at5)) $$ HS
  iintro HS
  iapply Hk
  iexact HS

theorem part17 (K : Dev nD × Ci → ℕ) (c : Dev nD) {α : Type} {Q : α → sProp (MT nD τ sig Unit (Elt F) ℕ UU ℕ)} (v2 : BitVec 32) (v4 : IVec S512x1 32) (v231 : IVec S512x256 8) (v492 : FVec F S512x512 .f32) (v514 : FVec F S1x1 .f32) (v517 : IVec S2x256x512 8) (v524 : IVec S512x256 8) (v526 : BitVec 32)
    {k : (Σ' (v539 : FVec F S512x512 .f32), BitVec 32) → Prog (TpuEff nD τ sig (Elt F) Λ₀ .tc) α} :
    iprop(records m K ∗ RecvSt m c 6 6)
      ⊢ iprop((RecvSt m c 7 7 -∗ wp frame (wpE (defs₀ (F := F)) 𝒱₀ (c : Thread nD τ) none) Set.univ (k ⟨k0_pay30 v4 v231 v492 v514 v517 v524 v526, (Scalar.remsi (Scalar.addi (Scalar.subi v2 7#32) 8#32) 8#32)⟩) Q)
          -∗ wp frame (wpE (defs₀ (F := F)) 𝒱₀ (c : Thread nD τ) none) Set.univ (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 c v2 v4 v231 v492 v514 v517 v524 v526 >>= k) Q) := by
  rw [k0_part17_eq_skeleton]; unfold k0_part17_skel
  simp only [semSignalWord, semWaitWord, Prog.lift, Prog.bind_op, Prog.bind_ret, Prog.pure_eq_ret]
  iintro ⟨#HR, HS⟩ Hk
  iapply (recvW_move m K c at6 6 rfl) $$ [HS]
  · isplitr; · iexact HR
    iexact HS
  iintro HS
  iapply (recvC_move m K c at6 7 rfl) $$ [HS]
  · isplitr; · iexact HR
    iexact HS
  iintro HS
  iapply Hk
  iexact HS

theorem part18 (K : Dev nD × Ci → ℕ) (c : Dev nD) {α : Type} {Q : α → sProp (MT nD τ sig Unit (Elt F) ℕ UU ℕ)} (v2 : BitVec 32) (v4 : IVec S512x1 32) (v9 : FVec F S512x16 .f32) (v231 : IVec S512x256 8) (v539 : FVec F S512x512 .f32) (v542 : BitVec 32)
    {R R' : sProp (MT nD τ sig Unit (Elt F) ℕ UU ℕ)}
    (hR : iprop(RecvSt m c 7 7 ∗ R) ⊣⊢ iprop(((c : Thread nD τ).loc cc0_scratch1 ↦{shareDrop fullShare 7} SG m) ∗ R'))
    {k : (Σ' (v586 : FVec F S512x512 .f32), IVec S512x16 1) → Prog (TpuEff nD τ sig (Elt F) Λ₀ .tc) α} :
    iprop(RecvSt m c 7 7 ∗ R)
      ⊢ iprop(((RecvSt m c 7 7 ∗ R) -∗ wp frame (wpE (defs₀ (F := F)) 𝒱₀ (c : Thread nD τ) none) Set.univ
            (k ⟨k0_pay31 v4 v231 v539 v542 (dq m (shr c at6)) (qw m (shr c at6)), k0_pay32 v2 v9 (cnts m)⟩) Q)
          -∗ wp frame (wpE (defs₀ (F := F)) 𝒱₀ (c : Thread nD τ) none) Set.univ (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 c v2 v4 v9 v231 v539 v542 >>= k) Q) := by
  rw [k0_part18_eq_skeleton]; unfold k0_part18_skel
  simp only [semSignalWord, semWaitWord, Prog.lift, Prog.bind_op, Prog.bind_ret, Prog.pure_eq_ret]
  iintro ⟨HS, Hres⟩ Hk
  iapply (loadD_move m c at6 7 (k0_off7_eq c at6)) $$ HS
  iintro HS
  iapply (loadW_move m c at6 7 (k0_off8_eq c at6)) $$ HS
  iintro HS
  ihave H := hR.1 $$ [HS Hres]
  · isplitl [HS]; · iexact HS
    iexact Hres
  icases H with ⟨HN, HR'⟩
  iapply (load_N m c (shareDrop fullShare 7)) $$ HN
  iintro HN
  ihave H := hR.2 $$ [HN HR']
  · isplitl [HN]; · iexact HN
    iexact HR'
  iapply Hk
  iexact H

theorem part19 (K : Dev nD × Ci → ℕ) (c : Dev nD) {α : Type} {Q : α → sProp (MT nD τ sig Unit (Elt F) ℕ UU ℕ)} (v9 : FVec F S512x16 .f32) (v225 : FVec F S512x1 .f32) (v586 : FVec F S512x512 .f32) (v604 : IVec S512x16 1) (f : (cc0_stg3_0 : Ref sig .tc).ty.Contents (Elt F))
    {k : PUnit → Prog (TpuEff nD τ sig (Elt F) Λ₀ .tc) α} :
    iprop(records m K ∗ SentSt m c 0 0 ∗ ((c : Thread nD τ).loc cc0_stg3_0 ↦{fullShare} f))
      ⊢ iprop((iprop(SentSt m c 1 1 ∗ ((c : Thread nD τ).loc cc0_stg3_0 ↦{fullShare} (k0_pay33 v9 v225 v586 v604))) -∗ wp frame (wpE (defs₀ (F := F)) 𝒱₀ (c : Thread nD τ) none) Set.univ (k ⟨⟩) Q)
          -∗ wp frame (wpE (defs₀ (F := F)) 𝒱₀ (c : Thread nD τ) none) Set.univ (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 c v9 v225 v586 v604 >>= k) Q) := by
  rw [k0_part19_eq_skeleton]; unfold k0_part19_skel
  simp only [semSignalWord, semWaitWord, Prog.lift, Prog.bind_op, Prog.bind_ret, Prog.pure_eq_ret]
  iintro ⟨#HR, HS, Ho⟩ Hk
  iapply (load_o c fullShare f) $$ Ho
  iintro Ho
  iapply (store_o c f (k0_pay33 v9 v225 v586 v604)) $$ Ho
  iintro Ho
  iapply (sentW_move m K c at0 0 rfl) $$ [HS]
  · isplitr; · iexact HR
    iexact HS
  iintro HS
  iapply (sentC_move m K c at0 1 rfl) $$ [HS]
  · isplitr; · iexact HR
    iexact HS
  iintro HS
  iapply Hk
  isplitl [HS]; · iexact HS
  iexact Ho

theorem part20 (K : Dev nD × Ci → ℕ) (c : Dev nD) {α : Type} {Q : α → sProp (MT nD τ sig Unit (Elt F) ℕ UU ℕ)}
    {k : PUnit → Prog (TpuEff nD τ sig (Elt F) Λ₀ .tc) α} :
    iprop(records m K ∗ SentSt m c 1 1)
      ⊢ iprop((SentSt m c 3 3 -∗ wp frame (wpE (defs₀ (F := F)) 𝒱₀ (c : Thread nD τ) none) Set.univ (k ⟨⟩) Q)
          -∗ wp frame (wpE (defs₀ (F := F)) 𝒱₀ (c : Thread nD τ) none) Set.univ (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 c >>= k) Q) := by
  rw [k0_part20_eq_skeleton]; unfold k0_part20_skel
  simp only [semSignalWord, semWaitWord, Prog.lift, Prog.bind_op, Prog.bind_ret, Prog.pure_eq_ret]
  iintro ⟨#HR, HS⟩ Hk
  iapply (sentW_move m K c at1 1 rfl) $$ [HS]
  · isplitr; · iexact HR
    iexact HS
  iintro HS
  iapply (sentC_move m K c at1 2 rfl) $$ [HS]
  · isplitr; · iexact HR
    iexact HS
  iintro HS
  iapply (sentW_move m K c at2 2 rfl) $$ [HS]
  · isplitr; · iexact HR
    iexact HS
  iintro HS
  iapply (sentC_move m K c at2 3 rfl) $$ [HS]
  · isplitr; · iexact HR
    iexact HS
  iintro HS
  iapply Hk
  iexact HS

theorem part21 (K : Dev nD × Ci → ℕ) (c : Dev nD) {α : Type} {Q : α → sProp (MT nD τ sig Unit (Elt F) ℕ UU ℕ)}
    {k : PUnit → Prog (TpuEff nD τ sig (Elt F) Λ₀ .tc) α} :
    iprop(records m K ∗ SentSt m c 3 3)
      ⊢ iprop((SentSt m c 5 5 -∗ wp frame (wpE (defs₀ (F := F)) 𝒱₀ (c : Thread nD τ) none) Set.univ (k ⟨⟩) Q)
          -∗ wp frame (wpE (defs₀ (F := F)) 𝒱₀ (c : Thread nD τ) none) Set.univ (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) cc0_scratch2 cc0_scratch3 cc0_scratch4 cc0_scratch5 c >>= k) Q) := by
  rw [k0_part21_eq_skeleton]; unfold k0_part21_skel
  simp only [semSignalWord, semWaitWord, Prog.lift, Prog.bind_op, Prog.bind_ret, Prog.pure_eq_ret]
  iintro ⟨#HR, HS⟩ Hk
  iapply (sentW_move m K c at3 3 rfl) $$ [HS]
  · isplitr; · iexact HR
    iexact HS
  iintro HS
  iapply (sentC_move m K c at3 4 rfl) $$ [HS]
  · isplitr; · iexact HR
    iexact HS
  iintro HS
  iapply (sentW_move m K c at4 4 rfl) $$ [HS]
  · isplitr; · iexact HR
    iexact HS
  iintro HS
  iapply (sentC_move m K c at4 5 rfl) $$ [HS]
  · isplitr; · iexact HR
    iexact HS
  iintro HS
  iapply Hk
  iexact HS

end Cert.Moe

end
-- ==== Proof.Body.lean ====
/-
The kernel's body on one device, from what the launch gives it to its result: the parts composed in program order.
-/
module

public import proofs.«01_k».proof.Proof.Families
public import proofs.«01_k».proof.Proof.PartsA
public import proofs.«01_k».proof.Proof.PartsB

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-! ## The result's value -/

/-- The device's number, as the kernel computes it, and that of the device `n` places before it. -/
def devW (c : Dev nD) : BitVec 32 := Scalar.remsi (Scalar.divsi (Dev.word c) 1#32) 8#32
def prevW (c : Dev nD) (n : BitVec 32) : BitVec 32 := Scalar.remsi (Scalar.addi (Scalar.subi (devW c) n) 8#32) 8#32

/-- The sum over the chunks, after the own one and after each of the seven that arrive. -/
def acc0 (c : Dev nD) : FVec F S512x512 .f32 :=
  k0_pay15 (k0_pay4 (wIn m c)) (k0_pay9 (xIn m c)) (k0_pay10 (qw m c)) (k0_pay11 (F := F)) (k0_pay12 (devW c) (k0_pay1 (eIn m c)) (xIn m c)) (k0_pay13 (devW c) (k0_pay1 (eIn m c))) k0_pay14
def acc1 (c : Dev nD) : FVec F S512x512 .f32 :=
  k0_pay17 (k0_pay1 (eIn m c)) (k0_pay9 (xIn m c)) (acc0 m c) (prevW c 1#32) (k0_pay16 (dq m (shr c at0))) (qw m (shr c at0))
def acc2 (c : Dev nD) : FVec F S512x512 .f32 :=
  k0_pay18 (k0_pay1 (eIn m c)) (k0_pay9 (xIn m c)) (acc1 m c) (prevW c 2#32) (dq m (shr c at1)) (qw m (shr c at1))
def acc3 (c : Dev nD) : FVec F S512x512 .f32 :=
  k0_pay23 (k0_pay9 (xIn m c)) (acc2 m c) (k0_pay19 (dq m (shr c at2))) (k0_pay20 (qw m (shr c at2))) (k0_pay21 (k0_pay1 (eIn m c)) (k0_pay9 (xIn m c)) (prevW c 3#32)) (k0_pay22 (k0_pay1 (eIn m c)) (prevW c 3#32)) 0#8
def acc4 (c : Dev nD) : FVec F S512x512 .f32 :=
  k0_pay25 (k0_pay1 (eIn m c)) (k0_pay9 (xIn m c)) (acc3 m c) (prevW c 4#32) (k0_pay24 (dq m (shr c at3))) (qw m (shr c at3))
def acc5 (c : Dev nD) : FVec F S512x512 .f32 :=
  k0_pay26 (k0_pay1 (eIn m c)) (k0_pay9 (xIn m c)) (acc4 m c) (prevW c 5#32) (dq m (shr c at4)) (qw m (shr c at4))
def acc6 (c : Dev nD) : FVec F S512x512 .f32 :=
  k0_pay30 (k0_pay1 (eIn m c)) (k0_pay9 (xIn m c)) (acc5 m c) (k0_pay27 (dq m (shr c at5))) (k0_pay28 (qw m (shr c at5))) (k0_pay29 (k0_pay1 (eIn m c)) (k0_pay9 (xIn m c)) (prevW c 6#32)) (Scalar.addi (Scalar.muli 2#32 (prevW c 6#32)) 1#32)
def acc7 (c : Dev nD) : FVec F S512x512 .f32 :=
  k0_pay31 (k0_pay1 (eIn m c)) (k0_pay9 (xIn m c)) (acc6 m c) (prevW c 7#32) (dq m (shr c at6)) (qw m (shr c at6))
/-- What device `c` writes out. -/
def outAt (c : Dev nD) : (cc0_stg3_0 : Ref sig .tc).ty.Contents (Elt F) :=
  k0_pay33 (k0_pay2 (eIn m c)) (k0_pay8 (xIn m c)) (acc7 m c) (k0_pay32 (devW c) (k0_pay2 (eIn m c)) (cnts m))

/-! ## The run -/

/-- What device `c` has of the cells at the start: its positions, and the tokens of the duties it performs. -/
def linear (c : Dev nD) : sProp 𝕄 :=
  iprop((atPos ER (barC c) 0 ∅ 0 ∗ posn c 0 0 ∗ posn c 1 0 ∗ posn c 2 0 ∗ posn c 3 0) ∗ tokB c ∗ tokSW c ∗ tokRW c ∗ tokSC c ∗ tokRC c)
def ghost (K : Dev nD × Ci → ℕ) (c : Dev nD) : sProp 𝕄 := iprop(records m K ∗ linear c)
/-- That at some names, and the credits for what the others send it. -/
def start (c : Dev nD) : sProp 𝕄 :=
  iprop((∃ K, ghost m K c) ∗ cred (tallyAt (barC c) () 7) ∗ crds c 1 Nw ∗ crds c 3 Nc ∗ levAts L lv)

/-- What the body starts from, -/
def runPre (K : Dev nD × Ci → ℕ) (c : Dev nD) (f : (cc0_scratch0 : Ref sig .tc).ty.Contents (Elt F)) (g : (cc0_scratch1 : Ref sig .tc).ty.Contents (Elt F))
    (h : (cc0_stg3_0 : Ref sig .tc).ty.Contents (Elt F)) : sProp 𝕄 :=
  iprop(records m K ∗ levAts L lv ∗ linear c ∗ (cred (tallyAt (barC c) () 7) ∗ crds c 1 Nw ∗ crds c 3 Nc)
    ∗ (((c : Thread nD τ).loc cc0_scratch0 ↦{fullShare} f) ∗ ((c : Thread nD τ).loc cc0_scratch1 ↦{fullShare} g))
    ∗ (∃ W, owes (c : Thread nD τ) (O₀ c) W)
    ∗ ((c : Thread nD τ).loc cc0_stg0_0 ↦{fullShare} xIn m c) ∗ ((c : Thread nD τ).loc cc0_stg1_0 ↦{fullShare} eIn m c)
    ∗ ((c : Thread nD τ).loc cc0_stg2_0 ↦{fullShare} wIn m c) ∗ ((c : Thread nD τ).loc cc0_stg3_0 ↦{fullShare} h))

/-- the scratch of the body after it, with every counter it used at zero, -/
def Φ₁ (c : Dev nD) : sProp 𝕄 :=
  iprop((((c : Thread nD τ).loc cc0_scratch0 ↦{fullShare} WG m) ∗ ((c : Thread nD τ).loc cc0_scratch1 ↦{fullShare} SG m))
    ∗ (zeros c 0 ∗ zeros c 1 ∗ zeros c 2 ∗ zeros c 3) ∗ semVal (barC c) 0)
/-- and what it ends with. -/
def runPost (c : Dev nD) : sProp 𝕄 :=
  iprop(Φ₁ m c ∗ (∃ W, owes (c : Thread nD τ) 0 W)
    ∗ ((c : Thread nD τ).loc cc0_stg0_0 ↦{fullShare} xIn m c) ∗ ((c : Thread nD τ).loc cc0_stg1_0 ↦{fullShare} eIn m c)
    ∗ ((c : Thread nD τ).loc cc0_stg2_0 ↦{fullShare} wIn m c) ∗ ((c : Thread nD τ).loc cc0_stg3_0 ↦{fullShare} outAt m c))

/-- The launch's scratch, cut into slots: the own ones, and what the signals hand out. -/
theorem scratch_open (c : Dev nD) (f : (cc0_scratch0 : Ref sig .tc).ty.Contents (Elt F)) (g : (cc0_scratch1 : Ref sig .tc).ty.Contents (Elt F)) :
    iprop(tokB c ∗ (((c : Thread nD τ).loc cc0_scratch0 ↦{fullShare} f) ∗ ((c : Thread nD τ).loc cc0_scratch1 ↦{fullShare} g)))
      ⊢ (iprop(bigSep (from' 0) (toSignal c) ∗ ptW c c fullShare f ∗ ptS c c fullShare g) : sProp 𝕄) := by
  rw [wholeW, wholeS, univ_around, univ_around]
  iintro ⟨Ht, ⟨Hw, HW⟩, Hs, HS⟩
  isplitl [Ht HW HS]
  · iapply (sig_start c f g)
    isplitl [Ht]; · iexact Ht
    isplitl [HW]; · iexact HW
    iexact HS
  isplitl [Hw]; · iexact Hw
  iexact Hs

/-- Everything back, the cells close. -/
theorem finish (K : Dev nD × Ci → ℕ) (c : Dev nD) :
    iprop(records m K ∗ atPos ER (barC c) 1 ∅ 0 ∗ (posn c 0 1 ∗ posn c 1 1 ∗ posn c 2 1 ∗ posn c 3 1)
        ∗ (ptW c c (shareDrop fullShare 7) (WG m) ∗ bigSep Finset.univ (fun j : Fin 7 => ptW c c (shareTok fullShare 7 j) (WG m)) ∗ bigSep Finset.univ (fun j : Fin 7 => ptW c (shr c j) fullShare (WG m)))
        ∗ (ptS c c (shareDrop fullShare 7) (SG m) ∗ bigSep Finset.univ (fun j : Fin 7 => ptS c c (shareTok fullShare 7 j) (SG m)) ∗ bigSep Finset.univ (fun j : Fin 7 => ptS c (shr c j) fullShare (SG m))))
      ⊢ (iprop(|={Set.univ}=> Φ₁ m c) : sProp 𝕄) := by
  unfold Φ₁
  iintro ⟨#HR, Hb, ⟨H0, H1, H2, H3⟩, HW, HS⟩
  imod (close_bar m K c) $$ [Hb] with Hb
  · isplitr; · iexact HR
    iexact Hb
  imod (close_kind m K c 0) $$ [H0] with H0
  · isplitr; · iexact HR
    iexact H0
  imod (close_kind m K c 1) $$ [H1] with H1
  · isplitr; · iexact HR
    iexact H1
  imod (close_kind m K c 2) $$ [H2] with H2
  · isplitr; · iexact HR
    iexact H2
  imod (close_kind m K c 3) $$ [H3] with H3
  · isplitr; · iexact HR
    iexact H3
  imodintro
  isplitl [HW HS]
  · isplitl [HW]; · iapply (joinW m c); iexact HW
    iapply (joinS m c); iexact HS
  isplitl [H0 H1 H2 H3]
  · isplitl [H0]; · iexact H0
    isplitl [H1]; · iexact H1
    isplitl [H2]; · iexact H2
    iexact H3
  iexact Hb

set_option maxHeartbeats 1600000 in
/-- The body, from `runPre` to `runPost`. -/
theorem run_body (K : Dev nD × Ci → ℕ) (c : Dev nD) (f : (cc0_scratch0 : Ref sig .tc).ty.Contents (Elt F)) (g : (cc0_scratch1 : Ref sig .tc).ty.Contents (Elt F))
    (h : (cc0_stg3_0 : Ref sig .tc).ty.Contents (Elt F)) (Kt : PUnit → sProp 𝕄) :
    iprop(runPre m K c f g h ∗ (runPost m c -∗ Kt ⟨⟩))
      ⊢ wp frame (wpE (defs₀ (F := F)) 𝒱₀ (c : Thread nD τ) none) Set.univ
          (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
            (Memref.whole cc0_scratch0) (Memref.isWhole_whole _) (Memref.whole cc0_scratch1) (Memref.isWhole_whole _) cc0_scratch2 cc0_scratch3 cc0_scratch4 cc0_scratch5) Kt := by
  rw [cc0_body_eq_skeleton]; unfold cc0_body_skel
  rw [k0_part22_eq_skeleton]; unfold k0_part22_skel
  simp only [bind_assoc, Prog.lift, Prog.bind_op, Prog.bind_ret, Prog.pure_eq_ret]
  unfold runPre linear
  iintro ⟨⟨#HR, #Hlev, ⟨⟨Hb, P0, P1, P2, P3⟩, TB, TSW, TRW, TSC, TRC⟩, ⟨CB, C1, C3⟩, Hscr, ⟨%W0, HO⟩, Hx, He, Hw, Ho⟩, Hk⟩
  ihave Hscr := (scratch_open c f g) $$ [TB Hscr]
  · isplitl [TB]; · iexact TB
    iexact Hscr
  icases Hscr with ⟨Hsig, HW, HS⟩
  iapply (part1 m K c f g) $$ [He Hw HW HS]
  · isplitr; · iexact HR
    isplitl [He]; · iexact He
    isplitl [Hw]; · iexact Hw
    isplitl [HW]; · iexact HW
    iexact HS
  iintro ⟨He, Hw, HW, HS⟩
  dsimp only
  ihave HO' : SigSt c 0 $$ [HO Hsig]
  · unfold SigSt
    isplitl [HO]; · iexists W0; iexact HO
    iexact Hsig
  iapply (part2 m K c _ _ _) $$ [HO']
  · isplitr; · iexact HR
    iexact HO'
  iintro HO
  dsimp only
  iapply (part3 m K c _ _ _ (send_start m c)) $$ [HO CB Hb TSW TRW TSC TRC HW HS]
  · isplitr; · iexact HR
    isplitr; · iexact Hlev
    isplitl [HO]; · iexact HO
    isplitl [CB]; · iexact CB
    isplitl [Hb]; · iexact Hb
    isplitl [TSW]; · iexact TSW
    isplitl [TRW]; · iexact TRW
    isplitl [TSC]; · iexact TSC
    isplitl [TRC]; · iexact TRC
    isplitl [HW]; · iexact HW
    iexact HS
  iintro ⟨HO, Hb, HW, HS⟩
  dsimp only
  iapply (part4 m K c _ _) $$ [HO]
  · isplitr; · iexact HR
    iexact HO
  iintro HO
  dsimp only
  iapply (part5 m K c _ _) $$ [HO]
  · isplitr; · iexact HR
    iexact HO
  iintro HO
  dsimp only
  iapply (part6 m K c _) $$ [HO]
  · isplitr; · iexact HR
    iexact HO
  iintro HO
  dsimp only
  iapply (part7 m K c _ _) $$ [HO]
  · isplitr; · iexact HR
    iexact HO
  iintro HO
  dsimp only
  iapply (part8 m K c _ _ _) $$ [HO Hx HW]
  · isplitr; · iexact HR
    isplitl [HO]; · iexact HO
    isplitl [Hx]; · iexact Hx
    iexact HW
  iintro ⟨HO, Hx, HW⟩
  dsimp only
  ihave HO := (send_end m c) $$ HO
  icases HO with ⟨HO, C0, C2⟩
  ihave HO := (recv_start m c) $$ [HO P1 C1 P3 C3]
  · isplitl [HO]; · iexact HO
    isplitl [P1 C1]
    · isplitl [P1]; · iexact P1
      iexact C1
    isplitl [P3]; · iexact P3
    iexact C3
  iapply (part9 m K c _ _ _ _ _ _ _ _) $$ [HO]
  · isplitr; · iexact HR
    iexact HO
  iintro HO
  dsimp only
  iapply (part10 m K c _ _ _ _ _ _) $$ [HO]
  · isplitr; · iexact HR
    iexact HO
  iintro HO
  dsimp only
  iapply (part11 m K c _ _ _ _ _ _ _) $$ [HO]
  · isplitr; · iexact HR
    iexact HO
  iintro HO
  dsimp only
  iapply (part12 m K c _ _ _ _ _) $$ [HO]
  · isplitr; · iexact HR
    iexact HO
  iintro HO
  dsimp only
  iapply (part13 m K c _ _ _ _ _ _ _ _) $$ [HO]
  · isplitr; · iexact HR
    iexact HO
  iintro HO
  dsimp only
  iapply (part14 m K c _ _ _ _ _ _) $$ [HO]
  · isplitr; · iexact HR
    iexact HO
  iintro HO
  dsimp only
  iapply (part15 m K c _ _ _ _ _) $$ [HO]
  · isplitr; · iexact HR
    iexact HO
  iintro HO
  dsimp only
  iapply (part16 m K c _ _ _ _) $$ [HO]
  · isplitr; · iexact HR
    iexact HO
  iintro HO
  dsimp only
  iapply (part17 m K c _ _ _ _ _ _ _ _) $$ [HO]
  · isplitr; · iexact HR
    iexact HO
  iintro HO
  dsimp only
  iapply (part18 m K c _ _ _ _ _ _ (counts_open m c)) $$ [HO HS]
  · isplitl [HO]; · iexact HO
    iexact HS
  iintro ⟨HO, HS⟩
  dsimp only
  ihave HO := (recv_end m c) $$ HO
  icases HO with ⟨HO, ⟨P1, GW⟩, P3, GS⟩
  ihave HO := (sent_start m c) $$ [HO P0 C0 P2 C2]
  · isplitl [HO]; · iexact HO
    isplitl [P0 C0]
    · isplitl [P0]; · iexact P0
      iexact C0
    isplitl [P2]; · iexact P2
    iexact C2
  iapply (part19 m K c _ _ _ _ h) $$ [HO Ho]
  · isplitr; · iexact HR
    isplitl [HO]; · iexact HO
    iexact Ho
  iintro ⟨HO, Ho⟩
  dsimp only
  iapply (part20 m K c) $$ [HO]
  · isplitr; · iexact HR
    iexact HO
  iintro HO
  dsimp only
  iapply (part21 m K c) $$ [HO]
  · isplitr; · iexact HR
    iexact HO
  iintro HO
  dsimp only
  iapply (sentW_move m K c at5 5 rfl) $$ [HO]
  · isplitr; · iexact HR
    iexact HO
  iintro HO
  dsimp only
  iapply (sentC_move m K c at5 6 rfl) $$ [HO]
  · isplitr; · iexact HR
    iexact HO
  iintro HO
  dsimp only
  iapply (sentW_move m K c at6 6 rfl) $$ [HO]
  · isplitr; · iexact HR
    iexact HO
  iintro HO
  dsimp only
  iapply (sentC_move m K c at6 7 rfl) $$ [HO]
  · isplitr; · iexact HR
    iexact HO
  iintro HO
  dsimp only
  ihave HO := (sent_end m c) $$ HO
  icases HO with ⟨HO, ⟨P0, BW⟩, P2, BS⟩
  rw [wp_ret]
  imod (finish m K c) $$ [Hb P0 P1 P2 P3 HW BW GW HS BS GS] with HF
  · isplitr; · iexact HR
    isplitl [Hb]; · iexact Hb
    isplitl [P0 P1 P2 P3]
    · isplitl [P0]; · iexact P0
      isplitl [P1]; · iexact P1
      isplitl [P2]; · iexact P2
      iexact P3
    isplitl [HW BW GW]
    · isplitl [HW]; · iexact HW
      isplitl [BW]; · iexact BW
      iexact GW
    isplitl [HS]; · iexact HS
    isplitl [BS]; · iexact BS
    iexact GS
  imodintro
  iapply Hk
  unfold runPost
  isplitl [HF]; · iexact HF
  isplitl [HO]; · iexact HO
  isplitl [Hx]; · iexact Hx
  isplitl [He]; · iexact He
  isplitl [Hw]; · iexact Hw
  iexact Ho

end Cert.Moe

end
-- ==== Proof.Dats.lean ====
/-
The pipeline's data of the one region, and its body obligation.
-/
module

public import proofs.«01_k».proof.Proof.Body
public import proofs.«01_k».proof.Proof.Gen.KernelIdeal.Points

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

/-- The scratch before the one point: the two gathering buffers at any contents. -/
def Φ₀ (c : Dev nD) : sProp 𝕄 :=
  iprop(start m c ∗ (∃ f : (cc0_scratch0 : Ref sig .tc).ty.Contents (Elt F), (c : Thread nD τ).loc cc0_scratch0 ↦{fullShare} f)
    ∗ (∃ f : (cc0_scratch1 : Ref sig .tc).ty.Contents (Elt F), (c : Thread nD τ).loc cc0_scratch1 ↦{fullShare} f))

/-- The memory the launch starts from. -/
def s₁ : MemSt nD τ sig (Elt F) := ⟨m, fun _ => 0, ρ⟩

def dats (_ : Fin 1) (c : Dev nD) : Dat τ (Elt F) Unit ℕ UU ℕ cfg0 c where
  A w := m ((cfg0.win w).arr.view.loc (c : Thread nD τ))
  after w _ := match w with
    | ⟨0, _⟩ => xIn m c
    | ⟨1, _⟩ => eIn m c
    | ⟨2, _⟩ => wIn m c
    | ⟨3, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev t₀ : Fin cfg0.N := t0_0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m 0 c).owesAt () t₀.castSucc
    ∗ (∃ d, stg c cc0_stg0_0 ((dats m 0 c).before (0 : Fin 4) t₀ d))
    ∗ (∃ d, stg c cc0_stg1_0 ((dats m 0 c).before (1 : Fin 4) t₀ d))
    ∗ (∃ d, stg c cc0_stg2_0 ((dats m 0 c).before (2 : Fin 4) t₀ d))
    ∗ (∃ d, stg c cc0_stg3_0 ((dats m 0 c).before (3 : Fin 4) t₀ d)))
def bodyPost (c : Dev nD) : sProp 𝕄 :=
  iprop(Φ₁ m c ∗ (dats m 0 c).owesAt () t₀.succ ∗ stg c cc0_stg0_0 (xIn m c) ∗ stg c cc0_stg1_0 (eIn m c) ∗ stg c cc0_stg2_0 (wIn m c) ∗ stg c cc0_stg3_0 (outAt m c))

set_option maxRecDepth 8000 in
/-- The library's body obligation on core `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c none) Set.univ
    (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _)
      (Memref.whole cc0_scratch0) (Memref.isWhole_whole _) (Memref.whole cc0_scratch1) (Memref.isWhole_whole _) cc0_scratch2 cc0_scratch3 cc0_scratch4 cc0_scratch5) (fun _ => bodyPost m c)
  unfold bodyPre Φ₀ start ghost
  iintro ⟨⟨⟨⟨%K, #HR, Hlin⟩, CB, C1, C3, #Hlev⟩, ⟨%f, Hf⟩, ⟨%g, Hg⟩⟩, HO, ⟨%d0, %g0, %h0, Hx⟩, ⟨%d1, %g1, %h1, He⟩, ⟨%d2, %g2, %h2, Hw⟩, ⟨%d3, %g3, %h3, Ho⟩⟩
  have hx : g0 = xIn m c := by rw [h0]; unfold Dat.before; rw [if_pos (fetch0_0 t₀)]; rfl
  have he : g1 = eIn m c := by rw [h1]; unfold Dat.before; rw [if_pos (fetch0_1 t₀)]; rfl
  have hw : g2 = wIn m c := by rw [h2]; unfold Dat.before; rw [if_pos (fetch0_2 t₀)]; rfl
  subst hx he hw
  unfold Dat.owesAt Pipeline.owesWithin
  icases HO with ⟨%W, %hW, HO⟩
  rw [show (dats m 0 c).owed t₀.castSucc = O₀ c from rfl]
  iapply (run_body m K c f g g3 fun _ => bodyPost m c)
  isplitl
  · unfold runPre
    isplitr; · iexact HR
    isplitr; · iexact Hlev
    isplitl [Hlin]; · iexact Hlin
    isplitl [CB C1 C3]
    · isplitl [CB]; · iexact CB
      isplitl [C1]; · iexact C1
      iexact C3
    isplitl [Hf Hg]
    · isplitl [Hf]; · iexact Hf
      iexact Hg
    isplitl [HO]; · iexists W; iexact HO
    isplitl [Hx]; · iexact Hx
    isplitl [He]; · iexact He
    isplitl [Hw]; · iexact Hw
    iexact Ho
  · unfold runPost bodyPost
    iintro ⟨HF, ⟨%W', HO⟩, Hx, He, Hw, Ho⟩
    isplitl [HF]; · iexact HF
    isplitl [HO]
    · unfold Dat.owesAt Pipeline.owesWithin
      rw [show (dats m 0 c).owed t₀.succ = 0 from rfl]
      iexists W'
      isplitr; · ipureintro; exact fun _ _ => Or.inl trivial
      iexact HO
    isplitl [Hx]
    · iexists _; isplitr; · (ipureintro; rfl)
      iexact Hx
    isplitl [He]
    · iexists _; isplitr; · (ipureintro; rfl)
      iexact He
    isplitl [Hw]
    · iexists _; isplitr; · (ipureintro; rfl)
      iexact Hw
    iexists _; isplitr; · (ipureintro; rfl)
    iexact Ho

end Cert.Moe

end
-- ==== Proof.Run.lean ====
/-
The launch: the cells' ghost state dealt out, the credits counted, and the run of the whole program.
-/
module

public import proofs.«01_k».proof.Proof.Dats
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ) (ρ : Dev nD → PrngReg)

theorem ownSemFacts : Pipeline.OwnSemFacts cfg0.spec osem := by decide

theorem share_eq (c : Dev nD) (w : Fin cfg0.W) : (dats m 0 c).share w = fullShare := by unfold Dat.share; split <;> rfl

/-! ## Families over a device's cells -/

theorem bigSep_four (Φ : Fin 4 → sProp 𝕄) : bigSep Finset.univ Φ = iprop(Φ 0 ∗ Φ 1 ∗ Φ 2 ∗ Φ 3) :=
  bigSep_univ_eq_bigSepL [0, 1, 2, 3] (by decide) (by decide) Φ

theorem bigSep_kinds (Φ : Fin 4 × Fin 7 → sProp 𝕄) :
    bigSep Finset.univ Φ = iprop(bigSep Finset.univ (fun j => Φ (0, j)) ∗ bigSep Finset.univ (fun j => Φ (1, j)) ∗ bigSep Finset.univ (fun j => Φ (2, j)) ∗ bigSep Finset.univ (fun j => Φ (3, j))) := by
  rw [bigSep_univ_prod, bigSep_four]

theorem bigSep_ci (Φ : Ci → sProp 𝕄) : bigSep Finset.univ Φ = iprop(Φ none ∗ bigSep Finset.univ (fun x : Fin 4 × Fin 7 => Φ (some x))) := by
  have h : (Finset.univ : Finset Ci) = insert none (Finset.univ.map ⟨some, Option.some_injective _⟩) := by decide
  rw [h, bigSep_insert (by decide), bigSep_map]
  rfl

/-! ## The launch element -/

def cellSet : Finset (GSem nD τ sig) := Finset.univ.map ⟨kcell, kcell_injective⟩

/-- A device's own cells' duty tokens: its barrier's seven, and one for each of its other cells. -/
abbrev tokOf (x : Dev nD × Fin 7 ⊕ Dev nD × (Fin 4 × Fin 7)) : GSem nD τ sig × ℕ × Fin 7 := match x with
  | .inl (c, d) => (barC c, 0, d)
  | .inr (c, y) => (kcell (c, some y), 0, 0)
theorem tokOf_injective : Function.Injective tokOf := by
  rintro (⟨c, d⟩ | ⟨c, y⟩) (⟨c', d'⟩ | ⟨c', y'⟩) h
  · have h1 := kcell_injective (congrArg Prod.fst h)
    have h2 : d = d' := congrArg (fun x : GSem nD τ sig × ℕ × Fin 7 => x.2.2) h
    rw [(Prod.mk.inj h1).1, h2]
  · exact absurd (Prod.mk.inj (kcell_injective (congrArg Prod.fst h))).2 (by simp)
  · exact absurd (Prod.mk.inj (kcell_injective (congrArg Prod.fst h))).2 (by simp)
  · have h1 := kcell_injective (congrArg Prod.fst h)
    rw [(Prod.mk.inj h1).1, Option.some.inj (Prod.mk.inj h1).2]
def tokSet : Finset (GSem nD τ sig × ℕ × Fin 7) := Finset.univ.map ⟨tokOf, tokOf_injective⟩

def u₀ : UU := (initOf (Pipeline.cells cfgs cellOf_inj) (Pipeline.launchToks cfgs cellOf_inj), initOf cellSet tokSet)

/-- The tokens of device `c`'s barrier, and of its cells of kind `s`. -/
def ownB (c : Dev nD) : sProp 𝕄 := bigSep Finset.univ (fun d : Fin 7 => dutyTok ER (barC c) 0 d)
def ownT (s : Fin 4) (c : Dev nD) : sProp 𝕄 := bigSep Finset.univ (fun j : Fin 7 => dutyTok ER (kcell (c, some (s, j))) 0 0)
def toks (c : Dev nD) : sProp 𝕄 := iprop(ownB c ∗ ownT 0 c ∗ ownT 1 c ∗ ownT 2 c ∗ ownT 3 c)

/-- What the launch element deals device `c`, -/
def G (c : Dev nD) : sProp 𝕄 :=
  iprop((bigSep Finset.univ fun k : Ci => roundState ER (rd m) (kcell (c, k)) 0)
    ∗ (bigSep Finset.univ fun k : Ci => iprop(atPos ER (kcell (c, k)) 0 ∅ 0 ∗ reached ER (kcell (c, k)) 0)) ∗ toks c)
/-- and what the global step makes of it. -/
def G' (c : Dev nD) : sProp 𝕄 := iprop(∃ K, ghost m K c)

theorem bigSep_sum {α β : Type} [Fintype α] [Fintype β] [DecidableEq α] [DecidableEq β] (Φ : α ⊕ β → sProp 𝕄) :
    bigSep Finset.univ Φ = iprop(bigSep Finset.univ (fun a => Φ (.inl a)) ∗ bigSep Finset.univ (fun b => Φ (.inr b))) := by
  have h : (Finset.univ : Finset (α ⊕ β)) = Finset.univ.map ⟨Sum.inl, Sum.inl_injective⟩ ∪ Finset.univ.map ⟨Sum.inr, Sum.inr_injective⟩ := by
    ext x; cases x <;> simp
  have hd : Disjoint ((Finset.univ : Finset α).map ⟨(Sum.inl : α → α ⊕ β), Sum.inl_injective⟩) ((Finset.univ : Finset β).map ⟨Sum.inr, Sum.inr_injective⟩) := by
    rw [Finset.disjoint_left]; rintro x hx hy
    simp only [Finset.mem_map, Finset.mem_univ, true_and, Function.Embedding.coeFn_mk] at hx hy
    obtain ⟨a, rfl⟩ := hx; obtain ⟨b, hb⟩ := hy; cases hb
  rw [h, bigSep_union hd, bigSep_map, bigSep_map]
  rfl

theorem fund_cells : BI.own (ER (initOf cellSet tokSet)) ⊢ (|==> bigSep Finset.univ (G m) : sProp 𝕄) := by
  have hX (Φ : GSem nD τ sig → sProp 𝕄) : bigSep cellSet Φ = bigSep Finset.univ fun c : Dev nD => bigSep Finset.univ fun k : Ci => Φ (kcell (c, k)) := by
    unfold cellSet; rw [bigSep_map, bigSep_univ_prod]; rfl
  have hT : bigSep tokSet (fun x => (dutyTok ER x.1 x.2.1 x.2.2 : sProp 𝕄)) = bigSep Finset.univ fun c : Dev nD => toks c := by
    unfold tokSet toks ownB ownT
    rw [bigSep_map, bigSep_sum, bigSep_univ_prod, bigSep_univ_prod, ← bigSep_sep']
    refine bigSep_congr fun c _ => ?_
    rw [bigSep_kinds]; rfl
  iintro HX
  imod (Rounds.fund ER (rd m) cellSet tokSet) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch's one unscoped semaphore is the barrier's. -/
theorem unscopedSems0_eq (c : Dev nD) : (unscopedSems0 c : sProp 𝕄) = semVal (barC c) 0 := by
  unfold unscopedSems0; rw [bigSep_eq_bigSepL_of_eq [SemLoc.reg barS] (by decide) (by decide)]; rfl

theorem ownSems0_eq (c : Dev nD) : (Pipeline.ownSems0 (Ix := Unit) (Name := ℕ) (U := UU) (Lvl := ℕ) (Val := Elt F) (τ := τ) osem c : sProp 𝕄)
    = iprop(zeros c 0 ∗ zeros c 1 ∗ zeros c 2 ∗ zeros c 3) := by
  unfold Pipeline.ownSems0 zeros
  rw [bigSep_kinds]

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Ci => semVal (kcell (c, k)) 0 : sProp 𝕄) := by
  rw [unscopedSems0_eq, bigSep_ci]
  unfold Pipeline.ownSems0
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Ci => semVal (kcell (c, k)) 0) ∗ bigSep Finset.univ fun k : Ci => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A signal's token goes from the device signalled to the signaller, -/
def turnB : Dev nD × Fin 7 ≃ Dev nD × Fin 7 :=
  ⟨fun x => (shl x.1 x.2, x.2.rev), fun x => (shl x.1 x.2, x.2.rev), fun x => by simp only [shl_shl_rev, Fin.rev_rev], fun x => by simp only [shl_shl_rev, Fin.rev_rev]⟩
/-- a receive token from the receiver to the sender. -/
def turnR : Dev nD × Fin 7 ≃ Dev nD × Fin 7 :=
  ⟨fun x => (shl x.1 x.2, x.2), fun x => (shr x.1 x.2, x.2), fun x => by simp only [shr_shl], fun x => by simp only [shl_shr]⟩

/-- The tokens dealt to the devices that perform the duties. -/
theorem toks_around : (bigSep Finset.univ fun c : Dev nD => (toks c : sProp 𝕄))
    ⊢ bigSep Finset.univ fun c : Dev nD => iprop(tokB c ∗ tokSW c ∗ tokRW c ∗ tokSC c ∗ tokRC c) := by
  have hB : (bigSep Finset.univ fun c : Dev nD => (ownB c : sProp 𝕄)) = bigSep Finset.univ fun c => tokB c := by
    unfold ownB tokB
    rw [← bigSep_univ_prod (fun x : Dev nD × Fin 7 => (dutyTok ER (barC x.1) 0 x.2 : sProp 𝕄)), bigSep_univ_equiv turnB, bigSep_univ_prod]
    rfl
  have hW : (bigSep Finset.univ fun c : Dev nD => (ownT 1 c : sProp 𝕄)) = bigSep Finset.univ fun c => tokRW c := by
    unfold ownT tokRW
    rw [← bigSep_univ_prod (fun x : Dev nD × Fin 7 => (dutyTok ER (rcvW x.1 x.2) 0 0 : sProp 𝕄)), bigSep_univ_equiv turnR, bigSep_univ_prod]
    rfl
  have hC : (bigSep Finset.univ fun c : Dev nD => (ownT 3 c : sProp 𝕄)) = bigSep Finset.univ fun c => tokRC c := by
    unfold ownT tokRC
    rw [← bigSep_univ_prod (fun x : Dev nD × Fin 7 => (dutyTok ER (rcvC x.1 x.2) 0 0 : sProp 𝕄)), bigSep_univ_equiv turnR, bigSep_univ_prod]
    rfl
  unfold toks
  simp only [bigSep_sep']
  rw [hB, hW, hC]
  exact BI.Entails.refl _

theorem bigSep_under {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Ci => iprop(∃ κ : ℕ, cellInv ER (rd m) κ (kcell ck))),
    bigSep_congr (s := Finset.univ) (fun (c : Dev nD) _ => bigSep_sep' Finset.univ (fun k : Ci => (atPos ER (kcell (c, k)) 0 ∅ 0 : sProp 𝕄)) (fun k => reached ER (kcell (c, k)) 0)),
    bigSep_sep', ← bigSep_univ_prod (fun ck : Dev nD × Ci => (reached ER (kcell ck) 0 : sProp 𝕄))]
  iintro ⟨HI, ⟨Hat, #HR⟩, Htok⟩
  ihave HK := (BI.bigSep_exists_pi Finset.univ (fun (ck : Dev nD × Ci) (κ : ℕ) => (cellInv ER (rd m) κ (kcell ck) : sProp 𝕄))) $$ HI
  icases HK with ⟨%K, #HI⟩
  ihave Htk := (toks_around (F := F)) $$ Htok
  iapply (bigSep_under (R := records m K) (Φ := fun c => linear c) fun c _ => show iprop(records m K ∗ linear c) ⊢ G' m c from by
    unfold G' ghost
    iintro H
    iexists K
    iexact H)
  isplitr
  · unfold records; isplitl; · iexact HI
    iexact HR
  · iapply ((Entails.of_eq (bigSep_sep' Finset.univ (fun c : Dev nD => bigSep Finset.univ fun k : Ci => (atPos ER (kcell (c, k)) 0 ∅ 0 : sProp 𝕄))
        (fun c => iprop(tokB c ∗ tokSW c ∗ tokRW c ∗ tokSC c ∗ tokRC c))).symm).trans
      (bigSep_mono fun c _ => show _ ⊢ linear c from Entails.of_eq (by unfold linear posn; rw [bigSep_ci, bigSep_kinds])))
    isplitl [Hat]; · iexact Hat
    iexact Htk

/-- The global step, the semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

theorem at_cell (g g' : GSem nD τ sig) (n : ℕ) : (tallyAt g () n : CellTallies nD τ sig Unit) g' () = if g' = g then n else 0 := by
  rw [tallyAt_apply]; by_cases h : g' = g <;> simp [h]

theorem sum_at {ι : Type} (S : Finset ι) (f : ι → Dev nD × Ci) (n : ℕ) (ck : Dev nD × Ci) :
    (∑ j ∈ S, (tallyAt (kcell (f j)) () n : CellTallies nD τ sig Unit)) (kcell ck) () = (∑ j ∈ S, if ck = f j then 1 else 0) * n := by
  rw [tsum_apply, Finset.sum_mul]
  refine Finset.sum_congr rfl fun j _ => ?_
  rw [at_cell]
  by_cases h : ck = f j
  · simp [h]
  · rw [if_neg (fun h' => h (kcell_injective h')), if_neg h, Nat.zero_mul]

/-- What device `d` owes a cell. -/
theorem owed_at (d : Dev nD) (ck : Dev nD × Ci) :
    O₀ d (kcell ck) () = (∑ j : Fin 7, if ck = (shl d j, none) then 1 else 0) * 1
      + ((∑ j : Fin 7, if ck = (shl d j, some (1, j)) then 1 else 0) * Nw + (∑ j : Fin 7, if ck = (shl d j, some (3, j)) then 1 else 0) * Nc) := by
  unfold O₀ oB oW oC
  rw [Pi.add_apply, Finsupp.add_apply, Pi.add_apply, Finsupp.add_apply, from_zero,
    sum_at Finset.univ (fun j : Fin 7 => (shl d j, (none : Ci))), sum_at Finset.univ (fun j : Fin 7 => (shl d j, (some (1, j) : Ci))),
    sum_at Finset.univ (fun j : Fin 7 => (shl d j, (some (3, j) : Ci)))]

theorem launch_at (ck : Dev nD × Ci) (n : ℕ) (h : ∑ d : Dev nD, O₀ d (kcell ck) () = n) :
    tallyOn (kcell ck) (launchCredit (Pipeline.owing O₀) 0 (kcell ck)) = (tallyAt (kcell ck) () n : CellTallies nD τ sig Unit) := by
  unfold tallyAt; refine congrArg _ (Finsupp.ext fun u => ?_); cases u
  rw [Pipeline.launchCredit_owing, Finsupp.single_eq_same, h]

theorem count_bar : ∀ c : Dev nD, (∑ d : Dev nD, ∑ j : Fin 7, if ((c, none) : Dev nD × Ci) = (shl d j, none) then 1 else 0) = 7 := by decide
theorem count_one (s : Fin 4) : ∀ (c : Dev nD) (i : Fin 7), (∑ d : Dev nD, ∑ j : Fin 7, if ((c, some (s, i)) : Dev nD × Ci) = (shl d j, some (s, j)) then 1 else 0) = 1 := by
  revert s; decide
theorem count_none (c : Dev nD) (k : Ci) (k' : Fin 7 → Ci) (h : ∀ j, k ≠ k' j) (d : Dev nD) : (∑ j : Fin 7, if ((c, k) : Dev nD × Ci) = (shl d j, k' j) then 1 else 0) = 0 :=
  Finset.sum_eq_zero fun j _ => if_neg fun e => h j (Prod.mk.inj e).2

theorem launch_bar (c : Dev nD) : ∑ d : Dev nD, O₀ d (barC c) () = 7 := by
  rw [Finset.sum_congr rfl fun d _ => owed_at d (c, none)]
  simp only [count_none c none (fun j => some (1, j)) (fun _ h => by cases h), count_none c none (fun j => some (3, j)) (fun _ h => by cases h), Nat.zero_mul, Nat.add_zero]
  rw [← Finset.sum_mul, count_bar, Nat.mul_one]
theorem launch_rcvW (c : Dev nD) (i : Fin 7) : ∑ d : Dev nD, O₀ d (rcvW c i) () = Nw := by
  rw [Finset.sum_congr rfl fun d _ => owed_at d (c, some (1, i))]
  simp only [count_none c (some (1, i)) (fun _ => none) (fun _ h => by cases h), count_none c (some (1, i)) (fun j => some (3, j)) (fun _ h => absurd (Prod.mk.inj (Option.some.inj h)).1 (by decide)), Nat.zero_mul, Nat.add_zero, Nat.zero_add]
  rw [← Finset.sum_mul, count_one, Nat.one_mul]
theorem launch_rcvC (c : Dev nD) (i : Fin 7) : ∑ d : Dev nD, O₀ d (rcvC c i) () = Nc := by
  rw [Finset.sum_congr rfl fun d _ => owed_at d (c, some (3, i))]
  simp only [count_none c (some (3, i)) (fun _ => none) (fun _ h => by cases h), count_none c (some (3, i)) (fun j => some (1, j)) (fun _ h => absurd (Prod.mk.inj (Option.some.inj h)).1 (by decide)), Nat.zero_mul, Nat.add_zero, Nat.zero_add]
  rw [← Finset.sum_mul, count_one, Nat.one_mul]

theorem keep_three (A B C D E : sProp 𝕄) : iprop(A ∗ B ∗ C ∗ D ∗ E) ⊢ iprop(A ∗ C ∗ E) := by
  iintro ⟨HA, -, HC, -, HE⟩
  isplitl [HA]; · iexact HA
  isplitl [HC]; · iexact HC
  iexact HE

/-- The credits of the launch for what the others send device `c`. -/
theorem creds (c : Dev nD) :
    (Pipeline.launchCred O₀ c : sProp 𝕄) ⊢ iprop(cred (tallyAt (barC c) () 7) ∗ crds c 1 Nw ∗ crds c 3 Nc) := by
  unfold Pipeline.launchCred
  have hinj : Function.Injective (fun k : Ci => csem k) := csem_injective
  refine (bigSep_subset (t := Finset.univ.map ⟨csem, csem_injective⟩) (Finset.subset_univ _)).trans ?_
  rw [bigSep_map, bigSep_ci, bigSep_kinds]
  unfold crds
  have hb := launch_at (c, none) 7 (launch_bar c)
  have hW := fun j : Fin 7 => launch_at (c, some (1, j)) Nw (launch_rcvW c j)
  have hC := fun j : Fin 7 => launch_at (c, some (3, j)) Nc (launch_rcvC c j)
  rw [← hb]
  simp only [← hW, ← hC]
  exact keep_three _ _ _ _ _

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ ((c : Thread nD τ).loc main_arg1 ↦{fullShare} m ((c : Thread nD τ).loc main_arg1))) := by
  rw [Pipeline.unscopedRestP_none, unscopedRest0_eq]
  iintro ⟨Hm, Hlev, Hcr, -, HG⟩
  ihave Hc := (creds (F := F) c) $$ Hcr
  icases Hc with ⟨HB, H1, H3⟩
  imodintro
  unfold start G'
  isplitr [Hm]
  · isplitl [HG]; · iexact HG
    isplitl [HB]; · iexact HB
    isplitl [H1]; · iexact H1
    isplitl [H3]; · iexact H3
    iexact Hlev
  · iexact Hm

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁
  iintro ⟨⟨HW, HS⟩, HZ, HB⟩
  isplitl [HB]; · iexact HB
  isplitl [HZ]; · iexact HZ
  isplitl [HW]
  · iexists (WG m); iexact HW
  iexists (SG m); iexact HS

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

/-- What the run ends with: each window's array at what the pipeline leaves there, and the counts (read by no device) as they were. -/
def QC : PUnit × MemSt nD τ sig (Elt F) → Prop := fun r =>
  ∀ c : Dev nD, (∀ w : Fin cfg0.W, r.2.mem ((cfg0.win w).arr.view.loc (c : Thread nD τ)) = (dats m 0 c).arrAt w cfg0.N)
    ∧ r.2.mem ((c : Thread nD τ).loc main_arg1) = m ((c : Thread nD τ).loc main_arg1)

set_option maxRecDepth 8000 in
/-- The eight devices, for any float values, from any memory with zero counters: every weakly fair execution of the program
    terminates, and every final state has each device's result at `outAt`, its arguments unchanged and every counter at zero. -/
theorem run_windows : θ_run defs (onTc (τ := τ) (main (F := F))) (s₁ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun c => unscopedSems0 c) (Z := fun c => iprop((c : Thread nD τ).loc main_arg1 ↦{fullShare} m ((c : Thread nD τ).loc main_arg1)))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg1) = m ((c : Thread nD τ).loc main_arg1))
    (hY := fun c s' => by
      iintro ⟨Hu, Hm, HSI⟩
      icombine HSI Hm gives %h
      imod (Pipeline.unscopedSems0_read (X := unscopedSems0 c) (c := c) fupd_intro s') $$ [Hu HSI] with ⟨%hz, HSI⟩
      · isplitl [Hu] <;> iassumption
      imodintro
      isplitr
      · ipureintro; exact ⟨hz, Buf.eq_of_forall_mem_univ h⟩
      iexact HSI)
    (hQ := fun _ h hs => ⟨fun c => ⟨(h c).1, (h c).2.2.2⟩, sem_eq_zero hs fun c => (h c).2.2.1⟩)

end Cert.Moe

end
-- ==== Proof.Final.lean ====
/-
What the run leaves in the arrays: each argument as it was, and the result at `outAt`; and the two programs' frames.
-/
module

public import proofs.«01_k».proof.Proof.Run
public import Idealize.ShloMosaic.Lib.Pipeline.ValueKit

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable {F : FTy → Type} [FloatOps F]

variable (m : (ℓ : Loc nD τ sig) → Buf (Elt F) ℓ) (ρ : Dev nD → PrngReg)

/-- The output window's array after the run holds the value the body left. -/
theorem arr_out (c : Dev nD) : (dats m 0 c).arrAt (3 : Fin 4) cfg0.N = outAt m c := by
  refine (dats m 0 c).arrAt_eq_of_after_last (3 : Fin 4) t₀ (by decide +kernel) _ fun j => ?_
  blk_simp
  rfl

/-- Every weakly fair execution of the program on the eight devices terminates with device `c`'s result at `outAt m c`, every
    argument as it was and every counter at zero. -/
theorem run_main : θ_run defs (onTc (τ := τ) (main (F := F))) (s₁ m ρ) (fun r =>
    (∀ c : Dev nD, r.2.mem ((c : Thread nD τ).loc main_v1) = outAt m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
    ∧ r.2.sem = fun _ => 0) :=
  (θ_run defs _ _).mono (fun r h => ⟨fun c =>
    ⟨((h.1 c).1 (3 : Fin 4)).trans (arr_out m c),
     ((h.1 c).1 (0 : Fin 4)).trans ((dats m 0 c).arrAt_in (0 : Fin 4) rfl _),
     (h.1 c).2,
     ((h.1 c).1 (1 : Fin 4)).trans ((dats m 0 c).arrAt_in (1 : Fin 4) rfl _),
     ((h.1 c).1 (2 : Fin 4)).trans ((dats m 0 c).arrAt_in (2 : Fin 4) rfl _)⟩, h.2⟩) (run_windows m ρ)

end Cert.Moe

end
-- ==== Proof.Frames.lean ====
/-
The three frames. The kernel as compiled and the kernel read at the ideal instance have one text, so both frames are the one
run at two float instances.
-/
module

public import proofs.«01_k».proof.Defs
public import proofs.«01_k».proof.Proof.Final
public import proofs.«01_k».proof.Proof.Gen.Kernel
public import proofs.«01_k».proof.Proof.Gen.ReferenceIdeal
public import proofs.«01_k».proof.Proof.Gen.ReferenceIdeal.Run

@[expose] public section

set_option maxRecDepth 100000

noncomputable section

namespace Cert.Proof

open Idealize.ShloMosaic Idealize.SL.Sem

/-- The two programs' kernel functions are one. -/
theorem defs₀_same {F : FTy → Type} [FloatOps F] : Cert.Kernel.defs₀ (F := F) = Cert.KernelIdeal.defs₀ (F := F) := by
  refine congrArg Defs.onTc (funext fun l => ?_)
  match l with
  | 0 => funext x; obtain ⟨t, s⟩ := x; rfl

/-- So the two programs' definitions are. -/
theorem defs_same {F : FTy → Type} [FloatOps F] : Cert.Kernel.defs (F := F) = Cert.KernelIdeal.defs (F := F) :=
  congrArg (Pipeline.defs _) defs₀_same

/-- The kernel's frame: every weakly fair execution on the eight devices terminates, nothing it was given is changed and
    every counter ends at zero. -/
theorem frame_kernel : Cert.quiescent_Kernel := by
  intro m ρ _
  rw [defs_same]
  exact (θ_run (Cert.KernelIdeal.defs (F := Bits)) (onTc Cert.KernelIdeal.main) _).mono (fun _ h => ⟨fun c => (h.1 c).2, h.2⟩)
    (Cert.Moe.run_main (F := Bits) m ρ)

/-- The same of the kernel read at the ideal instance. -/
theorem frame_kernelIdeal : Cert.quiescent_KernelIdeal := fun m ρ _ =>
  (θ_run Cert.KernelIdeal.defs _ _).mono (fun _ h => ⟨fun c => (h.1 c).2, h.2⟩) (Cert.Moe.run_main (F := Ideal) m ρ)

/-- The reference's frame: a straight line of host operations that declares no semaphore. -/
theorem frame_referenceIdeal : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

end Cert.Proof

end
-- ==== Proof.Quant.lean ====
/-
The quantiser on extended reals: an entry no larger in magnitude than the scale, times 127 over the scale, rounded, is
an integer from −127 to 127, and the cast to eight bits keeps it.
-/
module

public import Idealize.ShloMosaic.Lib.Pointwise

@[expose] public section

set_option maxRecDepth 16384

noncomputable section

namespace Cert.Moe

open Idealize.ShloMosaic

/-- The word of 127. -/
theorem lit_127 : Ideal.ofBits .f32 1123942400#32 = ((127 : ℝ) : EReal) := by
  simp [Ideal.ofBits, Ideal.ieee, -EReal.coe_mul]
  norm_num

/-- The word of 204. -/
theorem lit_204 : Ideal.ofBits .f32 1129054208#32 = ((204 : ℝ) : EReal) := by
  simp [Ideal.ofBits, Ideal.ieee, -EReal.coe_mul]
  norm_num

/-- The word of minus infinity. -/
theorem lit_bot : Ideal.ofBits .f32 4286578688#32 = (⊥ : EReal) := by
  simp [Ideal.ofBits, Ideal.ieee]

/-- An entry in units of a scale over 127, rounded to the nearest integer. -/
def quant (x s : EReal) : EReal := Ideal.liftRound Ideal.roundHalfEven (x * Ideal.div (Ideal.ofBits .f32 1123942400#32) s)

/-- The same as an eight-bit word. -/
def quant8 (x s : EReal) : BitVec 8 := Ideal.fptosi 8 (quant x s)

/-- Rounding keeps a real from −127 to 127 there. -/
theorem round_bound (t : ℝ) (h₁ : -127 ≤ t) (h₂ : t ≤ 127) : -127 ≤ Ideal.roundHalfEven t ∧ Ideal.roundHalfEven t ≤ 127 := by
  have a : (-127 : ℤ) ≤ ⌊t⌋ := Int.le_floor.2 (by push_cast; exact h₁)
  have fl := Int.floor_le t
  have b : ⌊t⌋ ≤ 127 := by
    have : ((⌊t⌋ : ℤ) : ℝ) ≤ (127 : ℤ) := by push_cast; linarith
    exact_mod_cast this
  by_cases half : t - ⌊t⌋ < 1 / 2
  · have : Ideal.roundHalfEven t = ⌊t⌋ := by simp only [Ideal.roundHalfEven]; rw [if_pos half]
    omega
  · have c : ⌊t⌋ < 127 := by
      have : ((⌊t⌋ : ℤ) : ℝ) < (127 : ℤ) := by push_cast; linarith
      exact_mod_cast this
    simp only [Ideal.roundHalfEven]
    split_ifs <;> omega

/-- An integer from −127 to 127 survives the cast to eight bits. -/
theorem cast8 (n : ℤ) (h₁ : -127 ≤ n) (h₂ : n ≤ 127) : (Ideal.fptosi 8 (((n : ℝ)) : EReal)).toInt = n := by
  have e : Ideal.toIntClamped (-(2 ^ (8 - 1) : Nat)) ((2 ^ (8 - 1) : Nat) - 1) (((n : ℝ)) : EReal) = n := by
    show max _ (min _ (if 0 ≤ (n : ℝ) then ⌊(n : ℝ)⌋ else ⌈(n : ℝ)⌉)) = n
    rw [Int.floor_intCast, Int.ceil_intCast, ite_self]
    norm_num
    omega
  rw [Ideal.fptosi, e, BitVec.toInt_ofInt, Int.bmod_eq_of_le] <;> norm_num <;> omega

/-- The rounding of a finite product. -/
theorem quant_real (t : ℝ) : Ideal.liftRound Ideal.roundHalfEven (t : EReal) = ((Ideal.roundHalfEven t : ℝ) : EReal) := rfl

/-- The quantised entry is an integer from −127 to 127. -/
theorem quant_int (x s : EReal) (h : max x (-x) ≤ s) : ∃ n : ℤ, -127 ≤ n ∧ n ≤ 127 ∧ quant x s = ((n : ℝ) : EReal) := by
  have hx : x ≤ s := (le_max_left _ _).trans h
  have hx' : -x ≤ s := (le_max_right _ _).trans h
  suffices hs : ∃ t : ℝ, -127 ≤ t ∧ t ≤ 127 ∧ x * Ideal.div (Ideal.ofBits .f32 1123942400#32) s = (t : EReal) by
    obtain ⟨t, h₁, h₂, e⟩ := hs
    refine ⟨Ideal.roundHalfEven t, (round_bound t h₁ h₂).1, (round_bound t h₁ h₂).2, ?_⟩
    rw [quant, e, quant_real]
  rw [lit_127]
  induction s using EReal.rec with
  | bot =>
    rw [le_bot_iff] at hx hx'
    subst hx
    exact absurd hx' (by simp)
  | top =>
    refine ⟨0, by norm_num, by norm_num, ?_⟩
    rw [Ideal.div, if_neg (by simp)]
    simp
  | coe r =>
    induction x using EReal.rec with
    | bot => simp at hx'
    | top => simp at hx
    | coe y =>
      have y₁ : y ≤ r := by exact_mod_cast hx
      have y₂ : -y ≤ r := by exact_mod_cast hx'
      by_cases r0 : r = 0
      · refine ⟨0, by norm_num, by norm_num, ?_⟩
        have : y = 0 := by linarith
        subst this
        simp
      · have rp : 0 < r := lt_of_le_of_ne (by linarith) (Ne.symm r0)
        refine ⟨y * (127 * r⁻¹), ?_, ?_, ?_⟩
        · have : 0 ≤ r⁻¹ * (y + r) := mul_nonneg (inv_nonneg.2 rp.le) (by linarith)
          have e : r⁻¹ * (y + r) = y * r⁻¹ + 1 := by field_simp
          nlinarith
        · have : 0 ≤ r⁻¹ * (r - y) := mul_nonneg (inv_nonneg.2 rp.le) (by linarith)
          have e : r⁻¹ * (r - y) = 1 - y * r⁻¹ := by field_simp
          nlinarith
        · rw [Ideal.div, if_neg (by exact_mod_cast r0), ← EReal.coe_inv, ← EReal.coe_mul, ← EReal.coe_mul]

/-- The eight-bit word of a quantised entry reads back as the entry. -/
theorem quant8_toInt (x s : EReal) (h : max x (-x) ≤ s) : quant x s = (((quant8 x s).toInt : ℝ) : EReal) := by
  obtain ⟨n, h₁, h₂, e⟩ := quant_int x s h
  rw [quant8, e, cast8 n h₁ h₂]

end Cert.Moe

end
-- ==== Proof.Chunk.lean ====
/-
The kernel's product of one chunk at one index.
-/
module

public import proofs.«01_k».proof.Proof.Final
public import proofs.«01_k».proof.Proof.Quant
public import Idealize.ShloMosaic.Lib.Pointwise
public import Idealize.ShloMosaic.Lib.IntMxu

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

/-- The chunk's tokens beside each other: those for its first expert, then those for its second. -/
def pairCat (a b : IVec S512x256 8) : IVec S512x512 8 :=
  concatenate S512x512 1 [⟨S512x256, a⟩, ⟨S512x256, b⟩] concatenates_S512x256_S512x256_S512x512_d1

/-- The chunk's two experts above each other. -/
def pairStack (w : IVec S1x2x256x512 8) : IVec S512x512 8 :=
  shapeCast S512x512 (shapeCast S2x256x512 w shapeCasts_S1x2x256x512_S2x256x512) shapeCasts_S2x256x512_S512x512

/-- The tokens whose expert is `n`, the others zeroed. -/
def only (E : IVec S512x1 32) (q : IVec S512x256 8) (n : BitVec 32) : IVec S512x256 8 :=
  select (broadcastTo S512x256 (shapeCast S512x1 (cmpi .eq E (broadcast S512x1 n)) shapeCasts_S512x1_S512x1) broadcasts_S512x1_S512x256) q (broadcast S512x256 0#8)

/-- One step of the kernel's sum. -/
def step (E : IVec S512x1 32) (q : IVec S512x256 8) (acc : FVec Ideal S512x512 .f32) (p : BitVec 32) (s : FVec Ideal S1x1 .f32) (w : IVec S1x2x256x512 8) : FVec Ideal S512x512 .f32 :=
  addf acc (mulf (sitofp .f32 (matmulI8 IntMxuNumerics.v7x dot_S512x512_S512x512_S512x512_1_0_0_1_n_n
    (pairCat (only E q (Scalar.muli 2#32 p)) (only E q (Scalar.addi (Scalar.muli 2#32 p) 1#32))) (pairStack w) (constantI S512x512 32 0#32)))
    (broadcastTo S512x512 s broadcasts_S1x1_S512x512))

/-- The left half is the first operand, the right half the second. -/
theorem pairCat_at (a b : IVec S512x256 8) (r k : Fin 512) :
    pairCat a b (ix2 r k) = if h : k.val < 256 then a (ix2 r ⟨k.val, h⟩) else b (ix2 r ⟨k.val - 256, by omega⟩) := by
  pointwise [pairCat]

/-- The top half is the first expert, the bottom half the second. -/
theorem pairStack_at (w : IVec S1x2x256x512 8) (k h : Fin 512) :
    pairStack w (ix2 k h) = w (ix4 0 (⟨k.val / 256, by omega⟩ : Fin 2) (⟨k.val % 256, Nat.mod_lt _ (by decide)⟩ : Fin 256) h) := by
  pointwise [pairStack]

/-- A token's row is kept where its expert is the one asked for. -/
theorem only_at (E : IVec S512x1 32) (q : IVec S512x256 8) (n : BitVec 32) (r : Fin 512) (k : Fin 256) :
    only E q n (ix2 r k) = if E (ix2 r 0) = n then q (ix2 r k) else 0#8 := by
  pointwise [only]
  by_cases e : E (ix2 r 0) = n
  · simp [Scalar.select, IntOp.cmpi, e]
  · simp [Scalar.select, IntOp.cmpi, e, beq_false_of_ne e]

/-- The chunk's integer product at an index. -/
theorem dot_at (a b : IVec S512x512 8) (r h : Fin 512) :
    (matmulI8 IntMxuNumerics.v7x dot_S512x512_S512x512_S512x512_1_0_0_1_n_n a b (constantI S512x512 32 0#32) (ix2 r h)).toInt
      = ∑ k : Fin 512, (a (ix2 r k)).toInt * (b (ix2 k h)).toInt := by
  rw [matmulI8_toInt _ _ _ _ _ _ rfl ((absDotI8_le_numel _ _ _ _).trans (by decide))]
  unfold dotI8
  rw [DotDims.sum_contr₁ _ rfl rfl]
  refine Finset.sum_congr rfl fun k _ => ?_
  refine congrArg₂ (fun u v => (a u).toInt * (b v).toInt) (funext fun i => ?_) (funext fun i => ?_)
  · match i with
    | 0 => rfl
    | 1 => rfl
  · match i with
    | 0 => rfl
    | 1 => rfl

/-- The chunk's product as the sum over its two experts. -/
theorem chunk_dot (E : IVec S512x1 32) (q : IVec S512x256 8) (n₀ n₁ : BitVec 32) (w : IVec S1x2x256x512 8) (r h : Fin 512) :
    (matmulI8 IntMxuNumerics.v7x dot_S512x512_S512x512_S512x512_1_0_0_1_n_n (pairCat (only E q n₀) (only E q n₁)) (pairStack w) (constantI S512x512 32 0#32) (ix2 r h)).toInt
      = (if E (ix2 r 0) = n₀ then ∑ k : Fin 256, (q (ix2 r k)).toInt * (w (ix4 0 (0 : Fin 2) k h)).toInt else 0)
        + (if E (ix2 r 0) = n₁ then ∑ k : Fin 256, (q (ix2 r k)).toInt * (w (ix4 0 (1 : Fin 2) k h)).toInt else 0) := by
  rw [dot_at]
  refine (Fin.sum_univ_add (a := 256) (b := 256) (fun k : Fin 512 => _)).trans (congrArg₂ (· + ·) ?_ ?_)
  · have e : ∀ k : Fin 256, (pairCat (only E q n₀) (only E q n₁) (ix2 r (Fin.castAdd 256 k))).toInt * (pairStack w (ix2 (Fin.castAdd 256 k) h)).toInt
        = if E (ix2 r 0) = n₀ then (q (ix2 r k)).toInt * (w (ix4 0 (0 : Fin 2) k h)).toInt else 0 := fun k => by
      have hk : (Fin.castAdd 256 k).val = k.val := rfl
      rw [pairCat_at, dif_pos (by rw [hk]; exact k.isLt), only_at, pairStack_at]
      have e₀ : (⟨(Fin.castAdd 256 k).val / 256, by omega⟩ : Fin 2) = 0 := Fin.ext (Nat.div_eq_of_lt k.isLt)
      have e₁ : (⟨(Fin.castAdd 256 k).val % 256, Nat.mod_lt _ (by decide)⟩ : Fin 256) = k := Fin.ext (Nat.mod_eq_of_lt k.isLt)
      rw [e₀, e₁]
      split_ifs
      · rfl
      · simp
    rw [Finset.sum_congr rfl fun k _ => e k]
    split_ifs <;> simp
  · have e : ∀ k : Fin 256, (pairCat (only E q n₀) (only E q n₁) (ix2 r (Fin.natAdd 256 k))).toInt * (pairStack w (ix2 (Fin.natAdd 256 k) h)).toInt
        = if E (ix2 r 0) = n₁ then (q (ix2 r k)).toInt * (w (ix4 0 (1 : Fin 2) k h)).toInt else 0 := fun k => by
      have hk : (Fin.natAdd 256 k).val = 256 + k.val := rfl
      have kl := k.isLt
      rw [pairCat_at, dif_neg (by rw [hk]; omega), only_at, pairStack_at]
      have e₀ : (⟨(Fin.natAdd 256 k).val / 256, by omega⟩ : Fin 2) = 1 := Fin.ext (show (256 + k.val) / 256 = 1 by omega)
      have e₁ : (⟨(Fin.natAdd 256 k).val % 256, Nat.mod_lt _ (by decide)⟩ : Fin 256) = k := Fin.ext (show (256 + k.val) % 256 = k.val by omega)
      have e₂ : (⟨(Fin.natAdd 256 k).val - 256, by omega⟩ : Fin 256) = k := Fin.ext (show 256 + k.val - 256 = k.val by omega)
      rw [e₀, e₁, e₂]
      split_ifs
      · rfl
      · simp
    rw [Finset.sum_congr rfl fun k _ => e k]
    split_ifs <;> simp

/-- What a chunk adds at a token: its expert's integer product, by the chunk's scale. -/
def part (e : BitVec 32) (q : Fin 256 → ℤ) (w : Fin 2 → Fin 256 → ℤ) (s : EReal) (n₀ n₁ : BitVec 32) : EReal :=
  ((((if e = n₀ then ∑ k, q k * w 0 k else 0) + (if e = n₁ then ∑ k, q k * w 1 k else 0) : ℤ) : ℝ) : EReal) * s

/-- One step of the kernel's sum adds the chunk's part. -/
theorem step_at (E : IVec S512x1 32) (q : IVec S512x256 8) (acc : FVec Ideal S512x512 .f32) (p : BitVec 32) (s : FVec Ideal S1x1 .f32) (w : IVec S1x2x256x512 8) (r h : Fin 512) :
    step E q acc p s w (ix2 r h) = (acc (ix2 r h) : EReal) + part (E (ix2 r 0)) (fun k => (q (ix2 r k)).toInt) (fun a k => (w (ix4 0 a k h)).toInt) (s (ix2 0 0))
      (Scalar.muli 2#32 p) (Scalar.addi (Scalar.muli 2#32 p) 1#32) := by
  rw [part, ← chunk_dot]
  pointwise [step]
  rfl

variable (E : IVec S512x1 32) (q : IVec S512x256 8) (acc : FVec Ideal S512x512 .f32) (p : BitVec 32) (s : FVec Ideal S1x1 .f32) (d : FVec Ideal S1x1x1 .f32) (w : IVec S1x2x256x512 8)

theorem own_step (X : Vec Ideal S512x256 .f32) : k0_pay15 (F := Ideal) s (k0_pay9 X) (k0_pay10 (F := Ideal) w) (k0_pay11 (F := Ideal)) (k0_pay12 (F := Ideal) p E X) (k0_pay13 p E) (k0_pay14) = step E (k0_pay9 X) (k0_pay11 (F := Ideal)) p s w := rfl
theorem step1 : k0_pay17 (F := Ideal) E q acc p s w = step E q acc p s w := rfl
theorem step2 : k0_pay18 (F := Ideal) E q acc p d w = step E q acc p (k0_pay16 d) w := rfl
theorem step3 : k0_pay23 (F := Ideal) q acc (k0_pay19 d) (k0_pay20 (F := Ideal) w) (k0_pay21 E q p) (k0_pay22 E p) 0#8 = step E q acc p (k0_pay16 d) w := rfl
theorem step4 : k0_pay25 (F := Ideal) E q acc p (k0_pay24 d) w = step E q acc p (k0_pay16 d) w := rfl
theorem step5 : k0_pay26 (F := Ideal) E q acc p d w = step E q acc p (k0_pay16 d) w := rfl
theorem step6 : k0_pay30 (F := Ideal) E q acc (k0_pay27 d) (k0_pay28 (F := Ideal) w) (k0_pay29 E q p) (Scalar.addi (Scalar.muli 2#32 p) 1#32) = step E q acc p (k0_pay16 d) w := rfl
theorem step7 : k0_pay31 (F := Ideal) E q acc p d w = step E q acc p (k0_pay16 d) w := rfl

end Cert.Moe

end
-- ==== Proof.Acc.lean ====
/-
The kernel's sum over the eight chunks at one index.
-/
module

public import proofs.«01_k».proof.Proof.Chunk

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable (m : (ℓ : Loc nD τ sig) → Buf (Elt Ideal) ℓ)

/-! ## The experts' numbers as words -/

theorem own_lo (c : Dev nD) : Scalar.muli 2#32 (devW c) = BitVec.ofNat 32 (2 * c.val) := by revert c; decide +kernel
theorem own_hi (c : Dev nD) : Scalar.addi (Scalar.muli 2#32 (devW c)) 1#32 = BitVec.ofNat 32 (2 * c.val + 1) := by revert c; decide +kernel
theorem devW_eq (c : Dev nD) : devW c = BitVec.ofNat 32 c.val := by revert c; decide +kernel
/-- The device `j + 1` places before `c`, as the kernel computes its number. -/
theorem prevW_eq (c : Dev nD) (j : Fin 7) : prevW c (BitVec.ofNat 32 (j.val + 1)) = devW (shr c j) := by revert c j; decide +kernel

/-- Adding up from the own chunk downwards visits every chunk once. -/
theorem around {M : Type} [AddCommMonoid M] (T : Dev nD → M) (c : Dev nD) :
    0 + T c + T (shr c at0) + T (shr c at1) + T (shr c at2) + T (shr c at3) + T (shr c at4) + T (shr c at5) + T (shr c at6) = ∑ p, T p := by
  rw [zero_add]
  refine Eq.trans ?_ (Fin.sum_univ_eight T).symm
  fin_cases c
  · show T 0 + T 7 + T 6 + T 5 + T 4 + T 3 + T 2 + T 1 = _
    ac_rfl
  · show T 1 + T 0 + T 7 + T 6 + T 5 + T 4 + T 3 + T 2 = _
    ac_rfl
  · show T 2 + T 1 + T 0 + T 7 + T 6 + T 5 + T 4 + T 3 = _
    ac_rfl
  · show T 3 + T 2 + T 1 + T 0 + T 7 + T 6 + T 5 + T 4 = _
    ac_rfl
  · show T 4 + T 3 + T 2 + T 1 + T 0 + T 7 + T 6 + T 5 = _
    ac_rfl
  · show T 5 + T 4 + T 3 + T 2 + T 1 + T 0 + T 7 + T 6 = _
    ac_rfl
  · show T 6 + T 5 + T 4 + T 3 + T 2 + T 1 + T 0 + T 7 = _
    ac_rfl
  · show T 7 + T 6 + T 5 + T 4 + T 3 + T 2 + T 1 + T 0 = _
    ac_rfl

/-- The scale a device sends is the largest magnitude of its experts. -/
theorem dq_at (p : Dev nD) : k0_pay16 (dq m p) (ix2 0 0) = k0_pay4 (wIn m p) (ix2 0 0) := by
  have e : k0_pay16 (dq m p) (ix2 0 0) = k0_pay5 (F := Ideal) (eIn m p) (wIn m p) (ix3 0 0 (16 : Fin 32)) := by
    show side m p (atN 16) = _
    refine congrArg (k0_pay5 (F := Ideal) (eIn m p) (wIn m p)) (funext fun a => ?_)
    match a with
    | 0 => rfl
    | 1 => rfl
    | 2 => rfl
  rw [e]
  pointwise [k0_pay5, k0_pay4]

theorem pay1_at (E : Vec Ideal S512x1 .i32) (r : Fin 512) : k0_pay1 (F := Ideal) E (ix2 r 0) = E (ix2 r 0) := by
  pointwise [k0_pay1]

/-- What device `p`'s chunk adds at an entry of device `c`'s tokens. -/
def partOf (c p : Dev nD) (r h : Fin 512) : EReal :=
  part (eIn m c (ix2 r 0)) (fun k => (k0_pay9 (F := Ideal) (xIn m c) (ix2 r k)).toInt) (fun a k => (qw m p (ix4 0 a k h)).toInt)
    (k0_pay4 (F := Ideal) (wIn m p) (ix2 0 0)) (BitVec.ofNat 32 (2 * p.val)) (BitVec.ofNat 32 (2 * p.val + 1))

/-- One of the seven later steps. -/
theorem later (c : Dev nD) (j : Fin 7) (acc : FVec Ideal S512x512 .f32) (r h : Fin 512) (n : BitVec 32) (hn : n = BitVec.ofNat 32 (j.val + 1)) :
    step (k0_pay1 (F := Ideal) (eIn m c)) (k0_pay9 (F := Ideal) (xIn m c)) acc (prevW c n) (k0_pay16 (dq m (shr c j))) (qw m (shr c j)) (ix2 r h)
      = (acc (ix2 r h) : EReal) + partOf m c (shr c j) r h := by
  rw [step_at, hn, prevW_eq, own_hi, own_lo, dq_at, pay1_at, partOf]

/-- The kernel's sum is over every device's chunk. -/
theorem acc7_at (c : Dev nD) (r h : Fin 512) : acc7 m c (ix2 r h) = ∑ p : Dev nD, partOf m c p r h := by
  rw [← around (fun p => partOf m c p r h) c]
  have h0 : acc0 m c (ix2 r h) = (0 : EReal) + partOf m c c r h := by
    have z : k0_pay11 (F := Ideal) (ix2 r h) = (0 : EReal) := by pointwise [k0_pay11]
    rw [acc0, own_step, step_at, own_hi, own_lo, pay1_at, partOf, z]
  rw [acc7, step7, later m c at6 _ r h _ rfl, acc6, step6, later m c at5 _ r h _ rfl, acc5, step5, later m c at4 _ r h _ rfl, acc4, step4, later m c at3 _ r h _ rfl,
    acc3, step3, later m c at2 _ r h _ rfl, acc2, step2, later m c at1 _ r h _ rfl, acc1, step1, later m c at0 _ r h _ rfl, h0]

end Cert.Moe

end
-- ==== Proof.Count.lean ====
/-
Counts before a token: split over the devices, and as the words the kernel compares.
-/
module

public import proofs.«01_k».proof.Proof.Quant

@[expose] public section

set_option maxRecDepth 16384

noncomputable section

namespace Cert.Moe

open Idealize.ShloMosaic

/-- Token `x` of device `c` among all tokens. -/
def row (c : Fin 8) (x : Fin 512) : Fin 4096 := ⟨512 * c.val + x.val, by omega⟩

/-- Expert `a` of device `p` among all experts. -/
def expert (p : Fin 8) (a : Fin 2) : Fin 16 := ⟨2 * p.val + a.val, by omega⟩

/-- A sum over all tokens is the sum over devices of the sums over their tokens. -/
theorem sum_rows (f : Fin 4096 → EReal) : ∑ y, f y = ∑ p, ∑ x, f (row p x) := by
  rw [← Fintype.sum_prod_type' (fun p x => f (row p x))]
  exact (Fintype.sum_equiv (finProdFinEquiv (m := 8) (n := 512)) (fun z => f (row z.1 z.2)) f fun z => congrArg f (Fin.ext (by
    show 512 * z.1.val + z.2.val = z.2.val + 512 * z.1.val
    omega))).symm

/-- The sum over all experts is the sum over devices of the sums over their two experts. -/
theorem sum_experts (f : Fin 16 → EReal) : ∑ e, f e = ∑ p, (f (expert p 0) + f (expert p 1)) := by
  rw [← Fintype.sum_equiv (finProdFinEquiv (m := 8) (n := 2)) (fun z => f (expert z.1 z.2)) f fun z => congrArg f (Fin.ext (by
    show 2 * z.1.val + z.2.val = z.2.val + 2 * z.1.val
    omega)), Fintype.sum_prod_type]
  exact Finset.sum_congr rfl fun p _ => Fin.sum_univ_two _

/-- What comes before token `r` of device `c`: the earlier tokens of the device, and all tokens of the earlier devices. -/
theorem before_rows (f : Fin 4096 → EReal) (c : Fin 8) (r : Fin 512) :
    ∑ y : Fin 4096, (if y.val < (row c r).val then f y else 0)
      = ∑ x : Fin 512, (if x.val < r.val then f (row c x) else 0) + ∑ p : Fin 8, if p.val < c.val then ∑ x, f (row p x) else 0 := by
  rw [sum_rows]
  have e : ∀ p : Fin 8, (∑ x : Fin 512, if (row p x).val < (row c r).val then f (row p x) else 0)
      = (if p = c then ∑ x : Fin 512, (if x.val < r.val then f (row c x) else 0) else 0) + if p.val < c.val then ∑ x, f (row p x) else 0 := by
    intro p
    rcases lt_trichotomy p.val c.val with h | h | h
    · rw [if_neg (fun q => by subst q; omega), if_pos h, zero_add]
      refine Finset.sum_congr rfl fun x _ => if_pos ?_
      show 512 * p.val + x.val < 512 * c.val + r.val
      omega
    · obtain rfl : p = c := Fin.ext h
      rw [if_pos rfl, if_neg (lt_irrefl _), add_zero]
      refine Finset.sum_congr rfl fun x _ => if_congr ?_ rfl rfl
      show 512 * p.val + x.val < 512 * p.val + r.val ↔ _
      omega
    · rw [if_neg (fun q => by subst q; omega), if_neg (by omega), zero_add]
      refine Finset.sum_eq_zero fun x _ => if_neg ?_
      show ¬ 512 * p.val + x.val < 512 * c.val + r.val
      omega
  rw [Finset.sum_congr rfl fun p _ => e p, Finset.sum_add_distrib, Finset.sum_ite_eq' Finset.univ c, if_pos (Finset.mem_univ c)]

/-- The count up to a token, less the token's own, is the count before it. -/
theorem upto_sub (f : Fin 4096 → EReal) (hf : ∀ y, f y = 0 ∨ f y = 1) (y : Fin 4096) :
    (∑ x : Fin 4096, if x.val ≤ y.val then f x else 0) - f y = ∑ x : Fin 4096, if x.val < y.val then f x else 0 := by
  have e : (∑ x : Fin 4096, if x.val ≤ y.val then f x else 0) = (∑ x : Fin 4096, if x.val < y.val then f x else 0) + f y := by
    have s : ∀ x : Fin 4096, (if x.val ≤ y.val then f x else 0) = (if x.val < y.val then f x else 0) + if x = y then f y else 0 := by
      intro x
      rcases lt_trichotomy x.val y.val with h | h | h
      · rw [if_pos h.le, if_pos h, if_neg (fun q => by subst q; omega), add_zero]
      · obtain rfl : x = y := Fin.ext h
        rw [if_pos le_rfl, if_neg (lt_irrefl _), if_pos rfl, zero_add]
      · rw [if_neg (by omega), if_neg (by omega), if_neg (fun q => by subst q; omega), add_zero]
    rw [Finset.sum_congr rfl fun x _ => s x, Finset.sum_add_distrib, Finset.sum_ite_eq' Finset.univ y, if_pos (Finset.mem_univ y)]
  rw [e]
  rcases hf y with h | h
  · rw [h]
    simp
  · rw [h]
    exact EReal.add_sub_cancel_right (b := 1)

/-- A truth value as the number the kernel makes of it. -/
theorem bit_signed (b : Bool) : FloatOps.sitofp (F := Ideal) .f32 (BitVec.setWidth 32 (BitVec.ofBool b)) = if b then (1 : EReal) else 0 := by
  show ((((BitVec.setWidth 32 (BitVec.ofBool b)).toInt : ℤ) : ℝ) : EReal) = _
  have e : (BitVec.setWidth 32 (BitVec.ofBool b)).toInt = if b then 1 else 0 := by cases b <;> decide
  rw [e]
  cases b <;> simp

/-- A truth value as the number the reference makes of it. -/
theorem bit_unsigned (b : Bool) : FloatOps.uitofp (F := Ideal) .f32 (BitVec.ofBool b) = if b then (1 : EReal) else 0 := by
  show ((((BitVec.ofBool b).toNat : ℕ) : ℝ) : EReal) = _
  have e : (BitVec.ofBool b).toNat = if b then 1 else 0 := by cases b <;> decide
  rw [e]
  cases b <;> simp

/-- Small numbers compare as their words do. -/
theorem small_slt (x r : Nat) (hx : x < 2 ^ 31) (hr : r < 2 ^ 31) : IntOp.cmpi .slt (BitVec.ofNat 32 x) (BitVec.ofNat 32 r) = BitVec.ofBool (decide (x < r)) := by
  have a : (BitVec.ofNat 32 x).toInt = x := by
    rw [BitVec.toInt_ofNat', Int.bmod_eq_of_le] <;> norm_num <;> omega
  have b : (BitVec.ofNat 32 r).toInt = r := by
    rw [BitVec.toInt_ofNat', Int.bmod_eq_of_le] <;> norm_num <;> omega
  show BitVec.ofBool (BitVec.slt _ _) = _
  rw [BitVec.slt, a, b]
  norm_num

end Cert.Moe

end
-- ==== Proof.Reads.lean ====
/-
The kernel's other arrays at one index: the scales, the quantised operands, the one-hot array, the counts, the keep test.
-/
module

public import proofs.«01_k».proof.Proof.Acc
public import proofs.«01_k».proof.Proof.Count

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

variable (m : (ℓ : Loc nD τ sig) → Buf (Elt Ideal) ℓ)

/-- A token's scale is its largest magnitude. -/
theorem pay8_at (X : Vec Ideal S512x256 .f32) (r : Fin 512) :
    k0_pay8 (F := Ideal) X (ix2 r 0) = Finset.fold max (Ideal.ofBits FTy.f32 4286578688#32) (fun x => FloatOps.absf (F := Ideal) (φ := .f32) (X (ix2 r x))) Finset.univ := by
  pointwise [k0_pay8, k0_pay7]

/-- A quantised token entry. -/
theorem pay9_at (X : Vec Ideal S512x256 .f32) (r : Fin 512) (k : Fin 256) :
    k0_pay9 (F := Ideal) X (ix2 r k) = quant8 (X (ix2 r k)) (k0_pay8 (F := Ideal) X (ix2 r 0)) := by
  rw [pay8_at]
  pointwise [k0_pay9, k0_pay8, k0_pay7]
  rfl

/-- A device's scale is the largest magnitude of its two experts. -/
theorem pay4_at (W : Vec Ideal S2x256x512 .f32) :
    k0_pay4 (F := Ideal) W (ix2 0 0) = Finset.fold max (Ideal.ofBits FTy.f32 4286578688#32)
      (fun x : S1x2x256x512.Idx => FloatOps.absf (F := Ideal) (φ := .f32) (W (ix3 (x 1 : Fin 2) (x 2 : Fin 256) (x 3 : Fin 512))))
      {i | reduces_S1x2x256x512_S1.drop i = ix1 0} := by
  pointwise [k0_pay4, k0_pay3]

/-- A quantised expert entry. -/
theorem qw_at (p : Dev nD) (a : Fin 2) (k : Fin 256) (h : Fin 512) :
    qw m p (ix4 0 a k h) = quant8 (wIn m p (ix3 a k h)) (k0_pay4 (F := Ideal) (wIn m p) (ix2 0 0)) := by
  rw [pay4_at]
  pointwise [qw, k0_pay6, k0_pay4, k0_pay3]
  rfl

/-- One where the token goes to the expert, else zero. -/
theorem pay2_at (E : Vec Ideal S512x1 .i32) (r : Fin 512) (e : Fin 16) :
    k0_pay2 (F := Ideal) E (ix2 r e) = if E (ix2 r 0) = BitVec.ofNat 32 e.val then (1 : EReal) else 0 := by
  have b := bit_signed (E (ix2 r 0) == BitVec.ofNat 32 e.val)
  pointwise [k0_pay2, k0_pay1]
  refine b.trans ?_
  by_cases q : E (ix2 r 0) = BitVec.ofNat 32 e.val
  · rw [if_pos q, if_pos (beq_iff_eq.2 q)]
  · rw [if_neg q, if_neg (fun s => q (beq_iff_eq.1 s))]

/-- A device's count of tokens to an expert. -/
theorem cnts_at (p : Dev nD) (e : Fin 16) : cnts m (ix3 p 0 e) = ∑ x : Fin 512, (k0_pay2 (F := Ideal) (eIn m p) (ix2 x e) : EReal) := by
  have i : cnts m (ix3 p 0 e) = k0_pay5 (F := Ideal) (eIn m p) (wIn m p) (ix3 0 0 (⟨e.val, by omega⟩ : Fin 32)) := by
    show side m p (atN _) = _
    refine congrArg (k0_pay5 (F := Ideal) (eIn m p) (wIn m p)) (funext fun a => ?_)
    match a with
    | 0 => rfl
    | 1 => rfl
    | 2 => rfl
  rw [i]
  pointwise [k0_pay5]

/-- The keep test: the earlier tokens of the device and of the earlier devices to the expert are fewer than 204. -/
theorem pay32_at (c : Dev nD) (oh : FVec Ideal S512x16 .f32) (cn : Vec Ideal S8x1x16 .f32) (r : Fin 512) (e : Fin 16) :
    k0_pay32 (F := Ideal) (devW c) oh cn (ix2 r e) = BitVec.ofBool (decide
      ((∑ x : Fin 512, if x.val < r.val then (oh (ix2 x e) : EReal) else 0) + (∑ p : Fin 8, if p.val < c.val then (cn (ix3 p 0 e) : EReal) else 0)
        < Ideal.ofBits FTy.f32 1129054208#32)) := by
  have a : ∀ x : Fin 512, (FloatOps.sitofp (F := Ideal) .f32 (BitVec.setWidth 32 (IntOp.cmpi .slt (BitVec.ofNat 32 x.val) (BitVec.ofNat 32 r.val))) : EReal) * oh (ix2 x e)
      = if x.val < r.val then (oh (ix2 x e) : EReal) else 0 := fun x => by
    rw [small_slt _ _ (by omega) (by omega), bit_signed]
    by_cases q : x.val < r.val
    · rw [if_pos (decide_eq_true q), if_pos q, one_mul]
    · rw [if_neg (by simpa using q), if_neg q, zero_mul]
  have b : ∀ p : Fin 8, (cn (ix3 p 0 e) : EReal) * (FloatOps.sitofp (F := Ideal) .f32 (BitVec.setWidth 32 (IntOp.cmpi .slt (BitVec.ofNat 32 p.val) (BitVec.ofNat 32 c.val))) : EReal)
      = if p.val < c.val then (cn (ix3 p 0 e) : EReal) else 0 := fun p => by
    have cl : c.val < 8 := c.isLt
    rw [small_slt _ _ (by omega) (by omega), bit_signed]
    by_cases q : p.val < c.val
    · rw [if_pos (decide_eq_true q), if_pos q, mul_one]
    · rw [if_neg (by simpa using q), if_neg q, mul_zero]
  rw [devW_eq, ← Finset.sum_congr rfl fun x _ => a x, ← Finset.sum_congr rfl fun p _ => b p]
  pointwise [k0_pay32]

/-- The result: the sum over the chunks by the token's keep factor, its scale and the constant. -/
theorem pay33_at (oh : FVec Ideal S512x16 .f32) (s : FVec Ideal S512x1 .f32) (acc : FVec Ideal S512x512 .f32) (kp : IVec S512x16 1) (r h : Fin 512) :
    k0_pay33 (F := Ideal) oh s acc kp (ix2 r h) = (acc (ix2 r h) : EReal) *
      ((∑ e : Fin 16, (oh (ix2 r e) : EReal) * FloatOps.sitofp (F := Ideal) .f32 (BitVec.setWidth 32 (kp (ix2 r e)))) * s (ix2 r 0) * Ideal.ofBits FTy.f32 948045328#32) := by
  pointwise [k0_pay33]

end Cert.Moe

end
-- ==== Proof.RefTerm.lean ====
/-
The reference's result as a chain of named arrays, and each of them read at one index.
-/
module

public import proofs.«01_k».proof.Proof.Gen.ReferenceIdeal
public import proofs.«01_k».proof.Proof.Gen.ReferenceIdeal.Run
public import Idealize.ShloMosaic.Lib.Pointwise

@[expose] public section

set_option maxRecDepth 16384

noncomputable section

namespace Cert.Moe.Ref

open Cert.ReferenceIdeal Cert.ReferenceIdeal.Gen Idealize.ShloMosaic Idealize.ShloMosaic.TcCoe Idealize.SL.Sem Idealize.ShloMosaic.StableHlo

/-- One where the token goes to the expert, else zero. -/
def sent (R : IVec S4096x1 32) : FVec Ideal S4096x16 .f32 :=
  uitofp .f32 (cmpi .eq (broadcastInDim S4096x16 ![0, 1] bcast_S4096x1_S4096x16_0_1 R) (broadcastInDim S4096x16 ![0, 1] bcast_S1x16_S4096x16_0_1 (broadcastInDim S1x16 ![1] bcast_S16_S1x16_1 (iotaInDim S16 32 0))))

/-- How many of a column's entries stand at or above a row. -/
def upto (s : FVec Ideal S4096x16 .f32) : FVec Ideal S4096x16 .f32 :=
  Host.reduceWindowAdd ![4096, 1] ![1, 1] ![4095, 0] ![0, 0] s (broadcastInDim S_ ![] bcast_S_S_ (constant S_ .f32 0x00000000#32)) reduceWindows_S4096x16_S4096x16_w4096s1p4095_0_w1s1p0_0 h_S_

/-- One where the token goes to the expert and fewer than 204 tokens came before it there. -/
def kept (R : IVec S4096x1 32) : FVec Ideal S4096x16 .f32 :=
  mulf (sent R) (uitofp .f32 (cmpf .olt (subf (upto (sent R)) (sent R)) (broadcastInDim S4096x16 ![] bcast_S_S4096x16 (constant S_ .f32 0x434C0000#32))))

/-- Each token's largest magnitude. -/
def sx (X : FVec Ideal S4096x256 .f32) : FVec Ideal S4096x1 .f32 :=
  broadcastInDim S4096x1 ![0] bcast_S4096_S4096x1_0 (Host.reduce FloatOps.maximumf (Host.absf X) (constant S_ .f32 0xFF800000#32) reducesTo_S4096x256_S4096_d1 h_S_)

/-- The tokens in units of their largest magnitude over 127, rounded. -/
def qx (X : FVec Ideal S4096x256 .f32) : FVec Ideal S4096x256 .f32 :=
  Host.roundeven (mulf X (broadcastInDim S4096x256 ![0, 1] bcast_S4096x1_S4096x256_0_1 (Host.divf (broadcastInDim S4096x1 ![] bcast_S_S4096x1 (constant S_ .f32 0x42FE0000#32)) (sx X))))

/-- The largest magnitude of the two experts of a device. -/
def mw (W : FVec Ideal S16x256x512 .f32) : FVec Ideal S8 .f32 :=
  Host.reduce FloatOps.maximumf (Host.absf (shapeCast S8x2x256x512 W shapeCasts_S16x256x512_S8x2x256x512)) (constant S_ .f32 0xFF800000#32) reducesTo_S8x2x256x512_S8_d1_2_3 h_S_

/-- The same, one entry an expert. -/
def sw (W : FVec Ideal S16x256x512 .f32) : FVec Ideal S16 .f32 :=
  shapeCast S16 (broadcastInDim S8x2 ![0] bcast_S8_S8x2_0 (mw W)) shapeCasts_S8x2_S16

/-- The experts in units of that over 127, rounded. -/
def qw (W : FVec Ideal S16x256x512 .f32) : FVec Ideal S16x256x512 .f32 :=
  Host.roundeven (mulf W (broadcastInDim S16x256x512 ![0, 1, 2] bcast_S16x1x1_S16x256x512_0_1_2 (broadcastInDim S16x1x1 ![0] bcast_S16_S16x1x1_0 (Host.divf (broadcastInDim S16 ![] bcast_S_S16 (constant S_ .f32 0x42FE0000#32)) (sw W)))))

/-- Every expert's product with every token, dequantised by the expert's scale. -/
def y (X : FVec Ideal S4096x256 .f32) (W : FVec Ideal S16x256x512 .f32) : FVec Ideal S16x4096x512 .f32 :=
  mulf (transpose S16x4096x512 [0, 2, 1] (Host.dotGeneral dot_S16x256x512_S4096x256_S16x512x4096_1_1_02_0_n_n none (qw W) (qx X)) transposes_S16x512x4096_S16x4096x512_0_2_1)
    (broadcastInDim S16x4096x512 ![0, 1, 2] bcast_S16x1x1_S16x4096x512_0_1_2 (broadcastInDim S16x1x1 ![0] bcast_S16_S16x1x1_0 (sw W)))

/-- The reference's result. -/
def out (X : FVec Ideal S4096x256 .f32) (R : IVec S4096x1 32) (W : FVec Ideal S16x256x512 .f32) : FVec Ideal S4096x512 .f32 :=
  mulf (Host.reduceAdd (mulf (broadcastInDim S16x4096x512 ![0, 1, 2] bcast_S16x4096x1_S16x4096x512_0_1_2 (broadcastInDim S16x4096x1 ![0, 1] bcast_S16x4096_S16x4096x1_0_1 (transpose S16x4096 [1, 0] (kept R) transposes_S4096x16_S16x4096_1_0))) (y X W)) (constant S_ .f32 0x00000000#32) reducesTo_S16x4096x512_S4096x512_d0 h_S_)
    (broadcastInDim S4096x512 ![0, 1] bcast_S4096x1_S4096x512_0_1 (mulf (sx X) (broadcastInDim S4096x1 ![] bcast_S_S4096x1 (constant S_ .f32 0x38820610#32))))

variable (m : (ℓ : Loc nD τ sig) → Buf (Elt Ideal) ℓ) (ρ : Dev nD → PrngReg)

/-- The reference ends with its result at `out` of its arguments, and its arguments unchanged. -/
theorem run_out : θ_run (defs (F := Ideal)) (onTc (τ := τ) (main (F := Ideal))) ⟨m, fun _ => 0, ρ⟩ fun r => ∀ c : Dev nD,
      r.2.mem ((c.tc : Thread nD τ).loc main_v44) = out (m ((c.tc : Thread nD τ).loc main_arg0)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run (F := Ideal) m ρ

variable (X : FVec Ideal S4096x256 .f32) (R : IVec S4096x1 32) (W : FVec Ideal S16x256x512 .f32)

/-- What a token's row of the one-hot array holds. -/
theorem sent_at (r : Fin 4096) (e : Fin 16) :
    sent R (ix2 r e) = FloatOps.uitofp (F := Ideal) .f32 (IntOp.cmpi .eq (R (ix2 r 0)) (BitVec.ofNat 32 e.val)) := by
  pointwise [sent]

/-- A token is kept where it is sent and the count before it is under 204. -/
theorem kept_at (r : Fin 4096) (e : Fin 16) :
    kept R (ix2 r e) = sent R (ix2 r e) * FloatOps.uitofp (F := Ideal) .f32
      (BitVec.ofBool (decide (upto (sent R) (ix2 r e) - sent R (ix2 r e) < Ideal.ofBits FTy.f32 1129054208#32))) := by
  pointwise [kept]

/-- A token's largest magnitude as a fold over its row. -/
theorem sx_at (r : Fin 4096) :
    sx X (ix2 r 0) = Finset.fold max (Ideal.ofBits FTy.f32 4286578688#32) (fun x => FloatOps.absf (F := Ideal) (φ := .f32) (X (ix2 r x))) Finset.univ := by
  pointwise [sx]

/-- A quantised token entry. -/
theorem qx_at (r : Fin 4096) (k : Fin 256) :
    qx X (ix2 r k) = Ideal.liftRound Ideal.roundHalfEven (X (ix2 r k) * Ideal.div (Ideal.ofBits FTy.f32 1123942400#32) (sx X (ix2 r 0))) := by
  pointwise [qx]

/-- An expert's scale as a fold over the two experts of its device. -/
theorem sw_at (e : Fin 16) :
    sw W (ix1 e) = Finset.fold max (Ideal.ofBits FTy.f32 4286578688#32)
      (fun x : S8x2x256x512.Idx => FloatOps.absf (F := Ideal) (φ := .f32) (W (ix3 (⟨(x 0).val * 2 + (x 1).val, by have h0 : (x 0).val < 8 := (x 0).isLt; have h1 : (x 1).val < 2 := (x 1).isLt; omega⟩ : Fin 16) (x 2 : Fin 256) (x 3 : Fin 512))))
      {i | reducesTo_S8x2x256x512_S8_d1_2_3.drop i = ix1 (⟨e.val / 2, by omega⟩ : Fin 8)} := by
  pointwise [sw, mw]

/-- A quantised expert entry. -/
theorem qw_at (e : Fin 16) (k : Fin 256) (h : Fin 512) :
    qw W (ix3 e k h) = Ideal.liftRound Ideal.roundHalfEven (W (ix3 e k h) * Ideal.div (Ideal.ofBits FTy.f32 1123942400#32) (sw W (ix1 e))) := by
  pointwise [qw]

/-- The result at an index: the kept experts' dequantised products, by the token's scale. -/
theorem out_at (r : Fin 4096) (h : Fin 512) :
    out X R W (ix2 r h) = (∑ e : Fin 16, kept R (ix2 r e) * ((∑ k : Fin 256, qw W (ix3 e k h) * qx X (ix2 r k)) * sw W (ix1 e))) *
      (sx X (ix2 r 0) * Ideal.ofBits FTy.f32 948045328#32) := by
  pointwise [out, y]

end Cert.Moe.Ref

end
-- ==== Proof.Cum.lean ====
/-
The running sum down the columns of a matrix of extended reals.
-/
module

public import Idealize.ShloMosaic.Lib.Routing.OpsOne
public import Idealize.ShloMosaic.Lib.Pointwise

@[expose] public section

set_option maxRecDepth 16384

noncomputable section

namespace Cert.Moe

open Idealize.ShloMosaic Idealize.ShloMosaic.Routing

/-- Adding up along a list from a start is the start plus the list's sum. -/
theorem foldl_plus {α : Type} (g : α → EReal) (l : List α) (v : EReal) :
    l.foldl (fun r n => r + g n) v = v + (l.map g).sum := by
  induction l generalizing v with
  | nil => simp
  | cons a l ih => rw [List.foldl_cons, ih, List.map_cons, List.sum_cons, add_assoc]

/-- The entries of a window ending at `j` are the entries up to `j`. -/
theorem window_sum (F : Nat → EReal) (N j : Nat) (hj : j < N + 1) :
    ∑ w ∈ Finset.range (N + 1), (if N ≤ j + w then F (j + w - N) else 0) = ∑ i ∈ Finset.range (N + 1), if i ≤ j then F i else 0 := by
  rw [← Finset.sum_filter, ← Finset.sum_filter]
  refine Finset.sum_nbij' (fun w => j + w - N) (fun i => i + N - j) ?_ ?_ ?_ ?_ ?_
  · intro w hw
    simp only [Finset.mem_filter, Finset.mem_range] at hw ⊢
    omega
  · intro w hw
    simp only [Finset.mem_filter, Finset.mem_range] at hw ⊢
    omega
  · intro w hw
    simp only [Finset.mem_filter, Finset.mem_range] at hw ⊢
    omega
  · intro w hw
    simp only [Finset.mem_filter, Finset.mem_range] at hw ⊢
    omega
  · intro w _
    rfl

/-- A window of the whole height padded low by one less sums each column from its top to the row asked for. -/
theorem upto_rows {N M C : Nat} (hM : N + 1 = M) (x : (shape2 M C).Idx → EReal) (init : shape0.Idx → EReal) (hi : ∀ i, init i = 0)
    (h : (shape2 M C).ReduceWindows (![M, 1] : Fin 2 → Nat) ![1, 1] ![N, 0] ![0, 0] (shape2 M C)) (hu : 0 < shape0.numel) (j : Fin M) (c : Fin C) :
    Host.reduceWindow (fun a b : EReal => a + b) ![M, 1] ![1, 1] ![N, 0] ![0, 0] x init h hu (ix2 j c)
      = ∑ i : Fin M, if i.val ≤ j.val then x (ix2 i c) else 0 := by
  subst hM
  have hj := j.isLt
  have hc := c.isLt
  let F : Nat → EReal := fun i => if q : i < N + 1 then x (ix2 ⟨i, q⟩ c) else 0
  unfold Host.reduceWindow
  refine (foldl_plus (fun n => _) _ _).trans ?_
  rw [hi, zero_add, ← Fin.sum_univ_def]
  have right : ∑ i : Fin (N + 1), (if i.val ≤ j.val then x (ix2 i c) else 0) = ∑ i ∈ Finset.range (N + 1), if i ≤ j.val then F i else 0 := by
    rw [← Fin.sum_univ_eq_sum_range (fun i => if i ≤ j.val then F i else 0)]
    refine Finset.sum_congr rfl fun i _ => ?_
    show _ = if i.val ≤ j.val then F i.val else 0
    rw [show F i.val = x (ix2 i c) from dif_pos i.isLt]
  have left : ∑ n : Fin (shape2 (N + 1) 1).numel, (if N ≤ j.val + n.val then F (j.val + n.val - N) else 0)
      = ∑ w ∈ Finset.range (N + 1), if N ≤ j.val + w then F (j.val + w - N) else 0 :=
    (Fin.sum_univ_eq_sum_range (fun w => if N ≤ j.val + w then F (j.val + w - N) else 0) _).trans
      (congrArg (fun M => ∑ w ∈ Finset.range M, if N ≤ j.val + w then F (j.val + w - N) else 0) (numel_col (N + 1)))
  rw [right, ← window_sum F N j.val hj, ← left]
  refine Finset.sum_congr rfl fun n _ => ?_
  have hw0 : ((shape2 (N + 1) 1).rowMajor.symm n 0).val = n.val := by rw [symm_col]; rfl
  have hw1 : ((shape2 (N + 1) 1).rowMajor.symm n 1).val = 0 := by rw [symm_col]; rfl
  have hn : n.val < N + 1 := (n.cast (numel_col _)).isLt
  by_cases hin : N ≤ j.val + n.val
  · rw [if_pos hin, show F (j.val + n.val - N) = x (ix2 ⟨j.val + n.val - N, by omega⟩ c) from dif_pos (by omega)]
    refine (dif_pos fun a => ?_).trans (congrArg x (funext fun a => Fin.ext ?_))
    · match a with
      | ⟨0, _⟩ =>
        show N ≤ j.val * 1 + ((shape2 (N + 1) 1).rowMajor.symm n 0).val ∧ j.val * 1 + ((shape2 (N + 1) 1).rowMajor.symm n 0).val - N < N + 1
        rw [hw0]
        omega
      | ⟨1, _⟩ =>
        show 0 ≤ c.val * 1 + ((shape2 (N + 1) 1).rowMajor.symm n 1).val ∧ c.val * 1 + ((shape2 (N + 1) 1).rowMajor.symm n 1).val - 0 < C
        rw [hw1]
        omega
    · match a with
      | ⟨0, _⟩ =>
        show j.val * 1 + ((shape2 (N + 1) 1).rowMajor.symm n 0).val - N = j.val + n.val - N
        rw [hw0, Nat.mul_one]
      | ⟨1, _⟩ =>
        show c.val * 1 + ((shape2 (N + 1) 1).rowMajor.symm n 1).val - 0 = c.val
        rw [hw1]
        omega
  · rw [if_neg hin]
    refine dif_neg fun q => hin ?_
    have q0 := (q 0).1
    change N ≤ j.val * 1 + ((shape2 (N + 1) 1).rowMajor.symm n 0).val at q0
    rw [hw0] at q0
    omega

end Cert.Moe

end
-- ==== Proof.Equal.lean ====
/-
The kernel's result equals the reference's, entry by entry.
-/
module

public import proofs.«01_k».proof.Proof.Reads
public import proofs.«01_k».proof.Proof.RefTerm
public import proofs.«01_k».proof.Proof.Cum

@[expose] public section

set_option maxRecDepth 16384

noncomputable section

namespace Cert.Moe

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Transfers (shareTok shareDrop)

/-! ## The reference -/

variable (X : FVec Ideal Cert.ReferenceIdeal.S4096x256 .f32) (R : IVec Cert.ReferenceIdeal.S4096x1 32) (W : FVec Ideal Cert.ReferenceIdeal.S16x256x512 .f32)

/-- One where token `y` goes to expert `e`. -/
def hit (e : Fin 16) (y : Fin 4096) : EReal := if R (ix2 y 0) = BitVec.ofNat 32 e.val then 1 else 0

theorem hit_cases (e : Fin 16) (y : Fin 4096) : hit R e y = 0 ∨ hit R e y = 1 := by
  unfold hit
  split_ifs
  · exact Or.inr rfl
  · exact Or.inl rfl

/-- One where fewer than 204 tokens to expert `e` come before token `y`. -/
def room (e : Fin 16) (y : Fin 4096) : EReal :=
  if (∑ x : Fin 4096, if x.val < y.val then hit R e x else 0) < Ideal.ofBits FTy.f32 1129054208#32 then 1 else 0

theorem sent_hit (y : Fin 4096) (e : Fin 16) : Ref.sent R (ix2 y e) = hit R e y := by
  rw [Ref.sent_at]
  refine (bit_unsigned (R (ix2 y 0) == BitVec.ofNat 32 e.val)).trans ?_
  unfold hit
  by_cases q : R (ix2 y 0) = BitVec.ofNat 32 e.val
  · rw [if_pos q, if_pos (beq_iff_eq.2 q)]
  · rw [if_neg q, if_neg (fun s => q (beq_iff_eq.1 s))]

theorem upto_hit (s : FVec Ideal Cert.ReferenceIdeal.S4096x16 .f32) (y : Fin 4096) (e : Fin 16) :
    Ref.upto s (ix2 y e) = ∑ x : Fin 4096, if x.val ≤ y.val then (s (ix2 x e) : EReal) else 0 := by
  unfold Ref.upto Host.reduceWindowAdd
  rw [Ideal.hostReduceWindowAdd_def]
  unfold Ideal.hostReduceWindowAdd
  exact upto_rows (N := 4095) (M := 4096) (C := 16) rfl s _ (fun _ => Ideal.ofBits_zero_f32) _ _ y e

/-- The reference keeps a token where it goes, if there is room. -/
theorem kept_hit (y : Fin 4096) (e : Fin 16) : Ref.kept R (ix2 y e) = hit R e y * room R e y := by
  have u : (Ref.upto (Ref.sent R) (ix2 y e) - Ref.sent R (ix2 y e) : EReal) = ∑ x : Fin 4096, if x.val < y.val then hit R e x else 0 := by
    rw [upto_hit, sent_hit, ← upto_sub (hit R e) (hit_cases R e) y]
    refine congrArg (fun z : EReal => z - hit R e y) (Finset.sum_congr rfl fun x _ => ?_)
    rw [sent_hit]
  rw [Ref.kept_at, u, sent_hit, bit_unsigned]
  refine congrArg (fun z : EReal => hit R e y * z) ?_
  unfold room
  by_cases q : (∑ x : Fin 4096, if x.val < y.val then hit R e x else 0) < Ideal.ofBits FTy.f32 1129054208#32
  · rw [if_pos q, if_pos (decide_eq_true q)]
  · rw [if_neg q, if_neg (by simpa using q)]

/-! ## The scales bound the entries -/

theorem sx_bound (y : Fin 4096) (k : Fin 256) : max (X (ix2 y k) : EReal) (-X (ix2 y k)) ≤ Ref.sx X (ix2 y 0) := by
  rw [Ref.sx_at]
  exact Finset.le_fold_max _ |>.2 (Or.inr ⟨k, Finset.mem_univ _, le_rfl⟩)

theorem sw_bound (e : Fin 16) (k : Fin 256) (h : Fin 512) : max (W (ix3 e k h) : EReal) (-W (ix3 e k h)) ≤ Ref.sw W (ix1 e) := by
  rw [Ref.sw_at]
  have e0 : e.val / 2 < 8 := by omega
  refine Finset.le_fold_max _ |>.2 (Or.inr ⟨ix4 (⟨e.val / 2, e0⟩ : Fin 8) (⟨e.val % 2, Nat.mod_lt _ (by decide)⟩ : Fin 2) k h, ?_, ?_⟩)
  · rw [Finset.mem_filter]
    refine ⟨Finset.mem_univ _, ?_⟩
    funext a
    match a with
    | 0 => rfl
  · have i : (⟨e.val / 2 * 2 + e.val % 2, by omega⟩ : Fin 16) = e := Fin.ext (by show e.val / 2 * 2 + e.val % 2 = e.val; omega)
    show _ ≤ max (W (ix3 (⟨e.val / 2 * 2 + e.val % 2, _⟩ : Fin 16) k h) : EReal) (-W (ix3 (⟨e.val / 2 * 2 + e.val % 2, _⟩ : Fin 16) k h))
    rw [i]

/-- The integer a quantised token entry is, and a quantised expert entry. -/
def qxI (y : Fin 4096) (k : Fin 256) : ℤ := (quant8 (X (ix2 y k)) (Ref.sx X (ix2 y 0))).toInt
def qwI (e : Fin 16) (k : Fin 256) (h : Fin 512) : ℤ := (quant8 (W (ix3 e k h)) (Ref.sw W (ix1 e))).toInt

theorem qx_int (y : Fin 4096) (k : Fin 256) : Ref.qx X (ix2 y k) = ((qxI X y k : ℝ) : EReal) := by
  rw [Ref.qx_at]
  exact quant8_toInt _ _ (sx_bound X y k)

theorem qw_int (e : Fin 16) (k : Fin 256) (h : Fin 512) : Ref.qw W (ix3 e k h) = ((qwI W e k h : ℝ) : EReal) := by
  rw [Ref.qw_at]
  exact quant8_toInt _ _ (sw_bound W e k h)

/-- A finite sum of reals is the real of the sum. -/
theorem coe_sum_real {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- Expert `e`'s integer product with token `y`. -/
def prodI (e : Fin 16) (y : Fin 4096) (h : Fin 512) : ℤ := ∑ k : Fin 256, qxI X y k * qwI W e k h

theorem dot_int (e : Fin 16) (y : Fin 4096) (h : Fin 512) :
    (∑ k : Fin 256, (Ref.qw W (ix3 e k h) : EReal) * Ref.qx X (ix2 y k)) = ((prodI X W e y h : ℝ) : EReal) := by
  have s : ∀ k : Fin 256, (Ref.qw W (ix3 e k h) : EReal) * Ref.qx X (ix2 y k) = (((qxI X y k * qwI W e k h : ℤ) : ℝ) : EReal) := fun k => by
    rw [qx_int, qw_int, ← EReal.coe_mul, mul_comm]
    push_cast
    rfl
  rw [Finset.sum_congr rfl fun k _ => s k, coe_sum_real, prodI]
  push_cast
  rfl

/-! ## The kernel against it -/

variable (m : (ℓ : Loc nD τ sig) → Buf (Elt Ideal) ℓ)
  (hx : ∀ (c : Dev nD) (r : Fin 512) (k : Fin 256), xIn m c (ix2 r k) = X (ix2 (row c r) k))
  (he : ∀ (c : Dev nD) (r : Fin 512), eIn m c (ix2 r 0) = R (ix2 (row c r) 0))
  (hw : ∀ (p : Dev nD) (a : Fin 2) (k : Fin 256) (h : Fin 512), wIn m p (ix3 a k h) = W (ix3 (expert p a) k h))

include hx in
theorem sx_same (c : Dev nD) (r : Fin 512) : k0_pay8 (F := Ideal) (xIn m c) (ix2 r 0) = Ref.sx X (ix2 (row c r) 0) := by
  rw [pay8_at, Ref.sx_at]
  refine congrArg (fun f => Finset.fold max (Ideal.ofBits FTy.f32 4286578688#32) f Finset.univ) (funext fun k => ?_)
  rw [hx]

include hx in
theorem qx_same (c : Dev nD) (r : Fin 512) (k : Fin 256) : (k0_pay9 (F := Ideal) (xIn m c) (ix2 r k)).toInt = qxI X (row c r) k := by
  rw [pay9_at, sx_same X m hx, hx, qxI]

include hw in
theorem sw_same (p : Dev nD) (a : Fin 2) : k0_pay4 (F := Ideal) (wIn m p) (ix2 0 0) = Ref.sw W (ix1 (expert p a)) := by
  have pl : p.val < 8 := p.isLt
  have half : (expert p a).val / 2 = p.val := by show (2 * p.val + a.val) / 2 = p.val; omega
  rw [pay4_at, Ref.sw_at]
  refine le_antisymm ?_ ?_
  · refine Finset.fold_max_le _ |>.2 ⟨Finset.le_fold_max _ |>.2 (Or.inl le_rfl), fun x _ => ?_⟩
    obtain ⟨z, b, k, h, rfl⟩ : ∃ (z : Fin 1) (b : Fin 2) (k : Fin 256) (h : Fin 512), x = ix4 z b k h := ⟨x 0, x 1, x 2, x 3, eq_ix4 x⟩
    refine Finset.le_fold_max _ |>.2 (Or.inr ⟨ix4 (p : Fin 8) b k h, ?_, le_of_eq ?_⟩)
    · rw [Finset.mem_filter]
      refine ⟨Finset.mem_univ _, ?_⟩
      funext d
      match d with
      | 0 => exact Fin.ext half.symm
    · have bl := b.isLt
      have i : (⟨p.val * 2 + b.val, by omega⟩ : Fin 16) = expert p b := Fin.ext (by show p.val * 2 + b.val = 2 * p.val + b.val; omega)
      show FloatOps.absf (F := Ideal) (φ := .f32) (wIn m p (ix3 b k h)) = FloatOps.absf (F := Ideal) (φ := .f32) (W (ix3 (⟨p.val * 2 + b.val, _⟩ : Fin 16) k h))
      rw [hw, i]
  · refine Finset.fold_max_le _ |>.2 ⟨Finset.le_fold_max _ |>.2 (Or.inl le_rfl), fun x hxm => ?_⟩
    obtain ⟨z, b, k, h, rfl⟩ : ∃ (z : Fin 8) (b : Fin 2) (k : Fin 256) (h : Fin 512), x = ix4 z b k h := ⟨x 0, x 1, x 2, x 3, eq_ix4 x⟩
    rw [Finset.mem_filter] at hxm
    have x0 : z.val = (expert p a).val / 2 := congrArg Fin.val (congrFun hxm.2 0)
    rw [half] at x0
    refine Finset.le_fold_max _ |>.2 (Or.inr ⟨ix4 (0 : Fin 1) b k h, ?_, le_of_eq ?_⟩)
    · rw [Finset.mem_filter]
      refine ⟨Finset.mem_univ _, ?_⟩
      funext d
      match d with
      | 0 => rfl
    · have bl := b.isLt
      have i : (⟨z.val * 2 + b.val, by omega⟩ : Fin 16) = expert p b := Fin.ext (by show z.val * 2 + b.val = 2 * p.val + b.val; omega)
      show FloatOps.absf (F := Ideal) (φ := .f32) (W (ix3 (⟨z.val * 2 + b.val, _⟩ : Fin 16) k h)) = FloatOps.absf (F := Ideal) (φ := .f32) (wIn m p (ix3 b k h))
      rw [hw, i]

include hw in
theorem qw_same (p : Dev nD) (a : Fin 2) (k : Fin 256) (h : Fin 512) : (qw m p (ix4 0 a k h)).toInt = qwI W (expert p a) k h := by
  rw [qw_at, sw_same W m hw p a, hw, qwI]

/-- What expert `e` contributes to token `y` if chosen. -/
def gain (e : Fin 16) (y : Fin 4096) (h : Fin 512) : EReal := ((prodI X W e y h : ℝ) : EReal) * Ref.sw W (ix1 e)

include hx he hw in
/-- A chunk's part is its two experts' contributions where chosen. -/
theorem part_same (c p : Dev nD) (r h : Fin 512) :
    partOf m c p r h = hit R (expert p 0) (row c r) * gain X W (expert p 0) (row c r) h + hit R (expert p 1) (row c r) * gain X W (expert p 1) (row c r) h := by
  have pl : p.val < 8 := p.isLt
  have d : BitVec.ofNat 32 (2 * p.val) ≠ BitVec.ofNat 32 (2 * p.val + 1) := by
    revert p
    decide +kernel
  have g0 : gain X W (expert p 0) (row c r) h = ((prodI X W (expert p 0) (row c r) h : ℝ) : EReal) * k0_pay4 (F := Ideal) (wIn m p) (ix2 0 0) := by
    rw [gain, sw_same W m hw p 0]
  have g1 : gain X W (expert p 1) (row c r) h = ((prodI X W (expert p 1) (row c r) h : ℝ) : EReal) * k0_pay4 (F := Ideal) (wIn m p) (ix2 0 0) := by
    rw [gain, sw_same W m hw p 1]
  have s : ∀ a : Fin 2, (∑ k : Fin 256, (k0_pay9 (F := Ideal) (xIn m c) (ix2 r k)).toInt * (qw m p (ix4 0 a k h)).toInt) = prodI X W (expert p a) (row c r) h := fun a => by
    refine Finset.sum_congr rfl fun k _ => ?_
    rw [qx_same X m hx, qw_same W m hw]
  rw [g0, g1, partOf, part, s 0, s 1, he]
  unfold hit
  show _ = (if R (ix2 (row c r) 0) = BitVec.ofNat 32 (2 * p.val) then (1 : EReal) else 0) * _ + (if R (ix2 (row c r) 0) = BitVec.ofNat 32 (2 * p.val + 1) then (1 : EReal) else 0) * _
  by_cases e₀ : R (ix2 (row c r) 0) = BitVec.ofNat 32 (2 * p.val)
  · rw [if_pos e₀, if_pos e₀, if_neg (fun q => d (e₀.symm.trans q)), if_neg (fun q => d (e₀.symm.trans q)), add_zero, one_mul, zero_mul, add_zero]
  · rw [if_neg e₀, if_neg e₀, zero_add, zero_mul, zero_add]
    by_cases e₁ : R (ix2 (row c r) 0) = BitVec.ofNat 32 (2 * p.val + 1)
    · rw [if_pos e₁, if_pos e₁, one_mul]
    · rw [if_neg e₁, if_neg e₁, zero_mul]
      simp

include he in
theorem oh_same (c : Dev nD) (r : Fin 512) (e : Fin 16) : k0_pay2 (F := Ideal) (eIn m c) (ix2 r e) = hit R e (row c r) := by
  rw [pay2_at, he, hit]

include he in
/-- The kernel's keep test is the reference's. -/
theorem room_same (c : Dev nD) (r : Fin 512) (e : Fin 16) :
    FloatOps.sitofp (F := Ideal) .f32 (BitVec.setWidth 32 (k0_pay32 (F := Ideal) (devW c) (k0_pay2 (F := Ideal) (eIn m c)) (cnts m) (ix2 r e))) = room R e (row c r) := by
  have t : (∑ x : Fin 512, if x.val < r.val then (k0_pay2 (F := Ideal) (eIn m c) (ix2 x e) : EReal) else 0) + (∑ p : Fin 8, if p.val < c.val then (cnts m (ix3 p 0 e) : EReal) else 0)
      = ∑ x : Fin 4096, if x.val < (row c r).val then hit R e x else 0 := by
    rw [before_rows (hit R e) c r]
    refine congrArg₂ (fun a b : EReal => a + b) (Finset.sum_congr rfl fun x _ => ?_) (Finset.sum_congr rfl fun p _ => ?_)
    · rw [oh_same R m he]
    · rw [cnts_at m p e, Finset.sum_congr rfl fun x _ => oh_same R m he p x e]
  rw [pay32_at, t, bit_signed, room]
  by_cases q : (∑ x : Fin 4096, if x.val < (row c r).val then hit R e x else 0) < Ideal.ofBits FTy.f32 1129054208#32
  · rw [if_pos q, if_pos (decide_eq_true q)]
  · rw [if_neg q, if_neg (by simpa using q)]

/-- With at most one expert chosen, keeping each contribution or the sum of them is the same. -/
theorem keep_out (H K G : Fin 16 → EReal) (hH : ∀ e, H e = 0 ∨ H e = 1) (one : ∀ e e', H e = 1 → H e' = 1 → e = e') (s t : EReal) :
    (∑ e, H e * G e) * ((∑ e, H e * K e) * s * t) = (∑ e, H e * K e * G e) * (s * t) := by
  by_cases ex : ∃ e, H e = 1
  · obtain ⟨e₀, h₀⟩ := ex
    have z : ∀ e, e ≠ e₀ → H e = 0 := fun e ne => (hH e).resolve_right fun h₁ => ne (one e e₀ h₁ h₀)
    rw [Finset.sum_eq_single e₀ (fun e _ ne => by rw [z e ne, zero_mul]) (fun n => absurd (Finset.mem_univ _) n),
      Finset.sum_eq_single e₀ (fun e _ ne => by rw [z e ne, zero_mul]) (fun n => absurd (Finset.mem_univ _) n),
      Finset.sum_eq_single e₀ (fun e _ ne => by rw [z e ne, zero_mul, zero_mul]) (fun n => absurd (Finset.mem_univ _) n), h₀, one_mul, one_mul]
    ac_rfl
  · have z : ∀ e, H e = 0 := fun e => (hH e).resolve_right fun h₁ => ex ⟨e, h₁⟩
    rw [Finset.sum_eq_zero (fun e _ => by rw [z e, zero_mul]), Finset.sum_eq_zero (f := fun e => H e * K e * G e) (fun e _ => by rw [z e, zero_mul, zero_mul]), zero_mul, zero_mul]

theorem hit_one (y : Fin 4096) (e e' : Fin 16) (h : hit R e y = 1) (h' : hit R e' y = 1) : e = e' := by
  have f : ∀ e : Fin 16, hit R e y = 1 → R (ix2 y 0) = BitVec.ofNat 32 e.val := fun e h => by
    by_contra n
    rw [hit, if_neg n] at h
    exact zero_ne_one h
  have i : BitVec.ofNat 32 e.val = BitVec.ofNat 32 e'.val := (f e h).symm.trans (f e' h')
  revert i
  clear h h' f
  revert e e'
  decide +kernel

include hx he hw in
/-- The kernel's result on device `c` is the reference's on the device's tokens. -/
theorem out_same (c : Dev nD) (r h : Fin 512) : outAt m c (ix2 r h) = Ref.out X R W (ix2 (row c r) h) := by
  have a : (acc7 m c (ix2 r h) : EReal) = ∑ e : Fin 16, hit R e (row c r) * gain X W e (row c r) h := by
    rw [acc7_at, sum_experts]
    exact Finset.sum_congr rfl fun p _ => part_same X R W m hx he hw c p r h
  have k : (∑ e : Fin 16, (k0_pay2 (F := Ideal) (eIn m c) (ix2 r e) : EReal) *
        FloatOps.sitofp (F := Ideal) .f32 (BitVec.setWidth 32 (k0_pay32 (F := Ideal) (devW c) (k0_pay2 (F := Ideal) (eIn m c)) (cnts m) (ix2 r e))))
      = ∑ e : Fin 16, hit R e (row c r) * room R e (row c r) :=
    Finset.sum_congr rfl fun e _ => by rw [oh_same R m he, room_same R m he]
  have b : (∑ e : Fin 16, (Ref.kept R (ix2 (row c r) e) : EReal) * ((∑ k : Fin 256, (Ref.qw W (ix3 e k h) : EReal) * Ref.qx X (ix2 (row c r) k)) * Ref.sw W (ix1 e)))
      = ∑ e : Fin 16, hit R e (row c r) * room R e (row c r) * gain X W e (row c r) h :=
    Finset.sum_congr rfl fun e _ => by rw [kept_hit, dot_int, gain]
  rw [outAt, pay33_at, Ref.out_at, a, k, b, sx_same X m hx]
  exact keep_out _ _ _ (fun e => hit_cases R e _) (fun e e' => hit_one R _ e e') _ _

end Cert.Moe

end
-- ==== Proof.Algebraic.lean ====
/-
The value claim: on arguments cut by device, the kernel ends with each device holding its block of the reference's result.
-/
module

public import proofs.«01_k».proof.Defs
public import proofs.«01_k».proof.Proof.Equal

@[expose] public section

set_option maxRecDepth 16384

noncomputable section

namespace Cert.Moe

open Cert.KernelIdeal Cert.KernelIdeal.Gen Idealize.ShloMosaic Idealize.ShloMosaic.TcCoe Idealize.SL.Sem

variable (m : (ℓ : Loc nD τ sig) → Buf (Elt Ideal) ℓ)

/-- The kernel's windows are the whole arrays. -/
theorem xIn_eq (c : Dev nD) (r : Fin 512) (k : Fin 256) : xIn m c (ix2 r k) = m ((c : Thread nD τ).loc main_arg0) (ix2 r k) := by
  unfold xIn
  blk_simp
  exact congrArg _ (funext fun b => Fin.ext (Pipeline.Window.rect_emb_val_of_index_zero win0_0 _ b (by fin_cases b <;> rfl) _))

theorem eIn_eq (c : Dev nD) (r : Fin 512) : eIn m c (ix2 r 0) = m ((c : Thread nD τ).loc main_arg2) (ix2 r 0) := by
  unfold eIn
  blk_simp
  exact congrArg _ (funext fun b => Fin.ext (Pipeline.Window.rect_emb_val_of_index_zero win0_1 _ b (by fin_cases b <;> rfl) _))

theorem wIn_eq (c : Dev nD) (a : Fin 2) (k : Fin 256) (h : Fin 512) : wIn m c (ix3 a k h) = m ((c : Thread nD τ).loc main_arg3) (ix3 a k h) := by
  unfold wIn
  blk_simp
  exact congrArg _ (funext fun b => Fin.ext (Pipeline.Window.rect_emb_val_of_index_zero win0_2 _ b (by fin_cases b <;> rfl) _))

/-- Entry `(r, k)` of device `c`'s block of a matrix of all tokens. -/
theorem block_rows {α : Type} {K : Nat} (V : (⟨2, ![4096, K]⟩ : Shape).Idx → α) (t : Layout.Tiles ⟨2, ![512, K]⟩ ⟨2, ![4096, K]⟩ 0 8) (c : Fin 8) (r : Fin 512) (k : Fin K) :
    Layout.block ⟨2, ![512, K]⟩ ⟨2, ![4096, K]⟩ 0 8 c V t (ix2 r k) = V (ix2 (row c r) k) := by
  rw [Layout.block_apply]
  refine congrArg V (funext fun b => Fin.ext ?_)
  match b with
  | 0 =>
    show c.val * 512 + r.val = 512 * c.val + r.val
    omega
  | 1 => rfl

/-- Entry `(a, k, h)` of device `c`'s block of all experts. -/
theorem block_experts {α : Type} (V : (⟨3, ![16, 256, 512]⟩ : Shape).Idx → α) (t : Layout.Tiles ⟨3, ![2, 256, 512]⟩ ⟨3, ![16, 256, 512]⟩ 0 8) (c : Fin 8) (a : Fin 2) (k : Fin 256) (h : Fin 512) :
    Layout.block ⟨3, ![2, 256, 512]⟩ ⟨3, ![16, 256, 512]⟩ 0 8 c V t (ix3 a k h) = V (ix3 (expert c a) k h) := by
  rw [Layout.block_apply]
  refine congrArg V (funext fun b => Fin.ext ?_)
  match b with
  | 0 =>
    show c.val * 2 + a.val = 2 * c.val + a.val
    omega
  | 1 => rfl
  | 2 => rfl

end Cert.Moe

namespace Cert.Proof

open Idealize.ShloMosaic Idealize.SL.Sem

/-- The value claim: from arguments that are the blocks of the reference's arguments, the kernel and the reference both run, the
    kernel's result on every device being the block of the reference's, and neither changing its arguments. -/
theorem algebraic : Cert.algebraic_KernelIdeal_ReferenceIdeal := by
  intro m g m' g' _ cut
  refine ⟨_, (θ_run _ _ _).mono (fun r h c => ⟨?_, (h.1 c).2⟩) (Cert.Moe.run_main (F := Ideal) m g),
    (θ_run _ _ _).mono (fun r h => h 0) (Cert.Moe.Ref.run_out m' g')⟩
  rw [(h.1 c).1]
  funext j
  obtain ⟨a, b, rfl⟩ : ∃ (a b : Fin 512), j = ix2 a b := ⟨j 0, j 1, eq_ix2 j⟩
  refine (Cert.Moe.out_same _ _ _ m (fun c r k => ?_) (fun c r => ?_) (fun p a k h => ?_) c a b).trans (Cert.Moe.block_rows _ _ c a b).symm
  · rw [Cert.Moe.xIn_eq, (cut c).1]
    exact Cert.Moe.block_rows _ _ c r k
  · rw [Cert.Moe.eIn_eq, (cut c).2.2.1]
    exact Cert.Moe.block_rows _ _ c r 0
  · rw [Cert.Moe.wIn_eq, (cut p).2.2.2]
    exact Cert.Moe.block_experts _ _ p a k h

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
